-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_numbers [hPre_plain_numbers : Cert.Pre_plain_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_plain_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_plain_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_plain_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_plain_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_plain_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_numbers [hPre_plain_numbers : Cert.Pre_plain_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_plain_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_plain_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_plain_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_plain_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_plain_numbers [hKernelIdeal : Cert.KernelIdeal.Facts] [hPre_plain_numbers : Cert.Pre_plain_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_plain_numbers [hReferenceIdeal : Cert.ReferenceIdeal.Facts] [hPre_plain_numbers : Cert.Pre_plain_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_lattice_columns_pre_plain_numbers [hKernelIdeal : Cert.KernelIdeal.Facts] [hReferenceIdeal : Cert.ReferenceIdeal.Facts] [hPre_plain_numbers : Cert.Pre_plain_numbers.Facts] [hOn_lattice_columns : Cert.On_lattice_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_lattice_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v6) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_lattice_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v97) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_near_sinusoid_pre_in_range [hKernelIdeal : Cert.KernelIdeal.Facts] [hPre_in_range : Cert.Pre_in_range.Facts] [hPost_near_sinusoid : Cert.Post_near_sinusoid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near_sinusoid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v6))) = (fun _ => 1#1))

def Claim : Prop :=
  ∃ (hKernel : Cert.Kernel.Facts) (hKernelIdeal : Cert.KernelIdeal.Facts) (hReferenceIdeal : Cert.ReferenceIdeal.Facts) (hPre_plain_numbers : Cert.Pre_plain_numbers.Facts) (hPre_in_range : Cert.Pre_in_range.Facts) (hPost_near_sinusoid : Cert.Post_near_sinusoid.Facts) (hOn_lattice_columns : Cert.On_lattice_columns.Facts),
    quiescent_Kernel (hKernel := hKernel)
    ∧ quiescent_KernelIdeal (hKernelIdeal := hKernelIdeal)
    ∧ quiescent_KernelIdeal_pre_plain_numbers (hKernelIdeal := hKernelIdeal) (hPre_plain_numbers := hPre_plain_numbers)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_plain_numbers (hReferenceIdeal := hReferenceIdeal) (hPre_plain_numbers := hPre_plain_numbers)
    ∧ preserves_Kernel_KernelIdeal
    ∧ algebraic_KernelIdeal_ReferenceIdeal_on_lattice_columns_pre_plain_numbers (hKernelIdeal := hKernelIdeal) (hReferenceIdeal := hReferenceIdeal) (hPre_plain_numbers := hPre_plain_numbers) (hOn_lattice_columns := hOn_lattice_columns)
    ∧ holds_KernelIdeal_near_sinusoid_pre_in_range (hKernelIdeal := hKernelIdeal) (hPre_in_range := hPre_in_range) (hPost_near_sinusoid := hPost_near_sinusoid)
-- ==== On_lattice_columns.lean ====
abbrev S4x2048 : Shape := ⟨2, ![4, 2048]⟩
abbrev S512x3 : Shape := ⟨2, ![512, 3]⟩
abbrev S512 : Shape := ⟨1, ![512]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : IVec S4x2048 32) (main_arg1 : FVec F S512x3 .f32) (main_arg2 : FVec F S512 .f32) (main_arg3 : FVec F S512 .f32) (main_arg4 : FVec F S512 .f32) : IVec S8192x1024 1 :=
  let main_v0 : IVec S8192x1024 32 := iotaInDim S8192x1024 32 1
  let main_c : IVec S_ 32 := constantI S_ 32 512#32
  let main_v1 : IVec S8192x1024 32 := broadcastInDim S8192x1024 ![] bcast_S_S8192x1024 main_c
  let main_v2 : IVec S8192x1024 1 := cmpi .sge main_v0 main_v1
  main_v2
-- ==== Post_near_sinusoid.lean ====
abbrev S4x2048 : Shape := ⟨2, ![4, 2048]⟩
abbrev S512x3 : Shape := ⟨2, ![512, 3]⟩
abbrev S512 : Shape := ⟨1, ![512]⟩
abbrev S8192x1024 : Shape := ⟨2, ![8192, 1024]⟩
abbrev S8192x1 : Shape := ⟨2, ![8192, 1]⟩
abbrev S1x256 : Shape := ⟨2, ![1, 256]⟩
abbrev S_ : Shape := ⟨0, ![]⟩
abbrev S8192x256 : Shape := ⟨2, ![8192, 256]⟩
abbrev S8192x256x1 : Shape := ⟨3, ![8192, 256, 1]⟩
abbrev S8192x256x2 : Shape := ⟨3, ![8192, 256, 2]⟩
abbrev S8192x512 : Shape := ⟨2, ![8192, 512]⟩
abbrev S8192 : Shape := ⟨1, ![8192]⟩
abbrev S1 : Shape := ⟨1, ![1]⟩
abbrev S1x1 : Shape := ⟨2, ![1, 1]⟩

class Facts : Prop where
  bcast_S_S1x256 : S_.BroadcastsInDim S1x256 (![] : Fin 0 → Fin S1x256.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  bcast_S8192x256_S8192x256x1_0_1 : S8192x256.BroadcastsInDim S8192x256x1 (![0, 1] : Fin 2 → Fin S8192x256x1.rank)
  concatenates_S8192x256x1_S8192x256x1_S8192x256x2_d2 : Shape.Concatenates [S8192x256x1, S8192x256x1] S8192x256x2 2
  shapeCasts_S8192x256x2_S8192x512 : S8192x256x2.ShapeCasts S8192x512
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x512_0 : S8192.BroadcastsInDim S8192x512 (![0] : Fin 1 → Fin S8192x512.rank)
  bcast_S_S8192x512 : S_.BroadcastsInDim S8192x512 (![] : Fin 0 → Fin S8192x512.rank)
  slices_S8192x1024_S8192x512_0_0 : S8192x1024.Slices ![0, 0] S8192x512
  gather_S8192x512_S8192x1_S8192x512_1_0_n_n_0_1_1512_wf : GatherDims.WF S8192x512 S8192x1 S8192x512 [1] [0] [] [0] [] 1 ![1, 512]

variable [Facts]

def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def fn_where {F : FTy → Type} [FloatOps F] (arg0 : IVec S8192 1) (arg1 : IVec S8192 32) (arg2 : IVec S8192 32) : IVec S8192 32 :=
  let v0 : IVec S8192 32 := select arg0 arg1 arg2
  v0

def fn_take {F : FTy → Type} [FloatOps F] (arg0 : FVec F S8192x512 .f32) (arg1 : IVec S8192 32) : FVec F S8192x512 .f32 :=
  let c : IVec S_ 32 := constantI S_ 32 0#32
  let v0 : IVec S8192 32 := broadcastInDim S8192 ![] bcast_S_S8192 c
  let v1 : IVec S8192 1 := cmpi .slt arg1 v0
  let c_0 : IVec S_ 32 := constantI S_ 32 8192#32
  let v2 : IVec S8192 32 := broadcastInDim S8192 ![] bcast_S_S8192 c_0
  let v3 : IVec S8192 32 := addi arg1 v2
  let v4 : IVec S8192 32 := fn_where (F := F) v1 v3 arg1
  let v5 : IVec S8192x1 32 := broadcastInDim S8192x1 ![0] bcast_S8192_S8192x1_0 v4
  let c_1 : IVec S1 32 := constantI S1 32 8191#32
  let c_2 : IVec S_ 32 := constantI S_ 32 0#32
  let v6 : IVec S8192x1 32 := broadcastInDim S8192x1 ![] bcast_S_S8192x1 c_2
  let v7 : IVec S8192x1 1 := cmpi .sge v5 v6
  let v8 : IVec S1x1 32 := broadcastInDim S1x1 ![1] bcast_S1_S1x1_1 c_1
  let v9 : IVec S8192x1 32 := broadcastInDim S8192x1 ![0, 1] bcast_S1x1_S8192x1_0_1 v8
  let v10 : IVec S8192x1 1 := cmpi .sle v5 v9
  let v11 : IVec S8192x1 1 := andi v7 v10
  let c_3 : IVec S_ 1 := constantI S_ 1 1#1
  let v12 : IVec S8192 1 := (fun x v => Host.reduce IntOp.andi x v reducesTo_S8192x1_S8192_d1 h_S_) v11 c_3
  let v13 : FVec F S8192x512 .f32 := (fun x i => Host.gather gather_S8192x512_S8192x1_S8192x512_1_0_n_n_0_1_1512 x i) arg0 v5
  let v14 : IVec S8192x512 1 := broadcastInDim S8192x512 ![0] bcast_S8192_S8192x512_0 v12
  let cst : FVec F S_ .f32 := constant S_ .f32 0x7FC00000#32
  let v15 : FVec F S8192x512 .f32 := broadcastInDim S8192x512 ![] bcast_S_S8192x512 cst
  let v16 : FVec F S8192x512 .f32 := select v14 v13 v15
  v16

def fn_part1 {F : FTy → Type} [FloatOps F] (main_arg5 : FVec F S8192x1024 .f32) (main_v20 : FVec F S8192x512 .f32) : IVec S8192x512 1 :=
  let main_v21 : FVec F S8192x512 .f32 := (extractStridedSlice S8192x512 ![0, 0] · slices_S8192x1024_S8192x512_0_0) main_arg5
  let main_v22 : FVec F S8192x512 .f32 := subf main_v21 main_v20
  let main_v23 : FVec F S8192x512 .f32 := Host.absf main_v22
  let main_cst_2 : FVec F S_ .f32 := constant S_ .f32 0x3A83126F#32
  let main_v24 : FVec F S8192x512 .f32 := broadcastInDim S8192x512 ![] bcast_S_S8192x512 main_cst_2
  let main_v25 : IVec S8192x512 1 := cmpf .ole main_v23 main_v24
  main_v25

def fn {F : FTy → Type} [FloatOps F] (main_arg0 : IVec S4x2048 32) (main_arg1 : FVec F S512x3 .f32) (main_arg2 : FVec F S512 .f32) (main_arg3 : FVec F S512 .f32) (main_arg4 : FVec F S512 .f32) (main_arg5 : FVec F S8192x1024 .f32) : IVec S8192x512 1 :=
  let main_v0 : FVec F S8192x1 .f32 := sitofp .f32 (iotaInDim S8192x1 32 0)
  let main_v1 : FVec F S1x256 .f32 := sitofp .f32 (iotaInDim S1x256 32 1)
  let main_cst : FVec F S_ .f32 := constant S_ .f32 0x40000000#32
  let main_v2 : FVec F S1x256 .f32 := broadcastInDim S1x256 ![] bcast_S_S1x256 main_cst
  let main_v3 : FVec F S1x256 .f32 := mulf main_v1 main_v2
  let main_cst_0 : FVec F S_ .f32 := constant S_ .f32 0x461C4000#32
  let main_v4 : FVec F S_ .f32 := Host.log main_cst_0
  let main_cst_1 : FVec F S_ .f32 := constant S_ .f32 0x44000000#32
  let main_v5 : FVec F S_ .f32 := Host.divf main_v4 main_cst_1
  let main_v6 : FVec F S_ .f32 := Host.negf main_v5
  let main_v7 : FVec F S1x256 .f32 := broadcastInDim S1x256 ![] bcast_S_S1x256 main_v6
  let main_v8 : FVec F S1x256 .f32 := mulf main_v3 main_v7
  let main_v9 : FVec F S1x256 .f32 := Host.exp main_v8
  let main_v10 : FVec F S8192x256 .f32 := broadcastInDim S8192x256 ![0, 1] bcast_S8192x1_S8192x256_0_1 main_v0
  let main_v11 : FVec F S8192x256 .f32 := broadcastInDim S8192x256 ![0, 1] bcast_S1x256_S8192x256_0_1 main_v9
  let main_v12 : FVec F S8192x256 .f32 := mulf main_v10 main_v11
  let main_v13 : FVec F S8192x256 .f32 := Host.sin main_v12
  let main_v14 : FVec F S8192x256 .f32 := Host.cos main_v12
  let main_v15 : FVec F S8192x256x1 .f32 := broadcastInDim S8192x256x1 ![0, 1] bcast_S8192x256_S8192x256x1_0_1 main_v13
  let main_v16 : FVec F S8192x256x1 .f32 := broadcastInDim S8192x256x1 ![0, 1] bcast_S8192x256_S8192x256x1_0_1 main_v14
  let main_v17 : FVec F S8192x256x2 .f32 := (fun a b => concatenate S8192x256x2 2 [⟨S8192x256x1, a⟩, ⟨S8192x256x1, b⟩] concatenates_S8192x256x1_S8192x256x1_S8192x256x2_d2) main_v15 main_v16
  let main_v18 : FVec F S8192x512 .f32 := shapeCast S8192x512 main_v17 shapeCasts_S8192x256x2_S8192x512
  let main_v19 : IVec S8192 32 := shapeCast S8192 main_arg0 shapeCasts_S4x2048_S8192
  let main_v20 : FVec F S8192x512 .f32 := fn_take (F := F) main_v18 main_v19
  fn_part1 (F := F) main_arg5 main_v20
-- ==== Pre_in_range.lean ====
abbrev S4x2048 : Shape := ⟨2, ![4, 2048]⟩
abbrev S512x3 : Shape := ⟨2, ![512, 3]⟩
abbrev S512 : Shape := ⟨1, ![512]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : IVec S4x2048 32) (main_arg1 : FVec F S512x3 .f32) (main_arg2 : FVec F S512 .f32) (main_arg3 : FVec F S512 .f32) (main_arg4 : FVec F S512 .f32) : IVec S4x2048 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 32 := constantI S_ 32 8192#32
  let main_v2 : IVec S4x2048 32 := broadcastInDim S4x2048 ![] bcast_S_S4x2048 main_c_0
  let main_v3 : IVec S4x2048 1 := cmpi .slt main_arg0 main_v2
  let main_v4 : IVec S4x2048 1 := andi main_v1 main_v3
  main_v4
-- ==== Pre_plain_numbers.lean ====
abbrev S4x2048 : Shape := ⟨2, ![4, 2048]⟩
abbrev S512x3 : Shape := ⟨2, ![512, 3]⟩
abbrev S512 : Shape := ⟨1, ![512]⟩
abbrev S_ : Shape := ⟨0, ![]⟩

class Facts : Prop where
  bcast_S_S4x2048 : S_.BroadcastsInDim S4x2048 (![] : Fin 0 → Fin S4x2048.rank)
  bcast_S_S512x3 : S_.BroadcastsInDim S512x3 (![] : Fin 0 → Fin S512x3.rank)
  bcast_S_S512 : S_.BroadcastsInDim S512 (![] : Fin 0 → Fin S512.rank)

variable [Facts]

def fn {F : FTy → Type} [FloatOps F] (main_arg0 : IVec S4x2048 32) (main_arg1 : FVec F S512x3 .f32) (main_arg2 : FVec F S512 .f32) (main_arg3 : FVec F S512 .f32) (main_arg4 : FVec F S512 .f32) : IVec S4x2048 1 × IVec S512x3 1 × IVec S512 1 × IVec S512 1 × IVec S512 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_v2 : FVec F S512x3 .f32 := Host.absf main_arg1
  let main_cst : FVec F S_ .f32 := constant S_ .f32 0x7F800000#32
  let main_v3 : FVec F S512x3 .f32 := broadcastInDim S512x3 ![] bcast_S_S512x3 main_cst
  let main_v4 : IVec S512x3 1 := cmpf .olt main_v2 main_v3
  let main_v5 : FVec F S512 .f32 := Host.absf main_arg2
  let main_cst_0 : FVec F S_ .f32 := constant S_ .f32 0x7F800000#32
  let main_v6 : FVec F S512 .f32 := broadcastInDim S512 ![] bcast_S_S512 main_cst_0
  let main_v7 : IVec S512 1 := cmpf .olt main_v5 main_v6
  let main_v8 : FVec F S512 .f32 := Host.absf main_arg3
  let main_cst_1 : FVec F S_ .f32 := constant S_ .f32 0x7F800000#32
  let main_v9 : FVec F S512 .f32 := broadcastInDim S512 ![] bcast_S_S512 main_cst_1
  let main_v10 : IVec S512 1 := cmpf .olt main_v8 main_v9
  let main_v11 : FVec F S512 .f32 := Host.absf main_arg4
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  (main_v1, main_v4, main_v7, main_v10, main_v13)
-- ==== Kernel.lean ====
abbrev S4x2048 : Shape := ⟨2, ![4, 2048]⟩
abbrev S512x3 : Shape := ⟨2, ![512, 3]⟩
abbrev S512 : Shape := ⟨1, ![512]⟩
abbrev S1x512 : Shape := ⟨2, ![1, 512]⟩
abbrev S4x1x2048 : Shape := ⟨3, ![4, 1, 2048]⟩
abbrev S3x512 : Shape := ⟨2, ![3, 512]⟩
abbrev S8192x1024 : Shape := ⟨2, ![8192, 1024]⟩
abbrev S1x1x2048 : Shape := ⟨3, ![1, 1, 2048]⟩
abbrev S2048x1024 : Shape := ⟨2, ![2048, 1024]⟩
abbrev S3 : Shape := ⟨1, ![3]⟩
abbrev S3x1 : Shape := ⟨2, ![3, 1]⟩
abbrev S1 : Shape := ⟨1, ![1]⟩
abbrev S1x1 : Shape := ⟨2, ![1, 1]⟩
abbrev S4x512 : Shape := ⟨2, ![4, 512]⟩
abbrev S5x512 : Shape := ⟨2, ![5, 512]⟩
abbrev S1x2048 : Shape := ⟨2, ![1, 2048]⟩
abbrev S5x2048 : Shape := ⟨2, ![5, 2048]⟩
abbrev S21x2048 : Shape := ⟨2, ![21, 2048]⟩
abbrev S1x1024 : Shape := ⟨2, ![1, 1024]⟩
abbrev S5x1024 : Shape := ⟨2, ![5, 1024]⟩
abbrev S21x1024 : Shape := ⟨2, ![21, 1024]⟩
abbrev S2048x512 : Shape := ⟨2, ![2048, 512]⟩

abbrev nBuf : Space → Nat
  | .hbm => 14
  | .vmem => 10
  | .smem => 0
  | _ => 0

abbrev bufTy : (tb : Table) → Fin (tcTables nBuf tb) → BufTy
  | .hbm, ⟨0, _⟩ => ⟨S4x2048, .i32⟩
  | .hbm, ⟨1, _⟩ => ⟨S512x3, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S4x1x2048, .i32⟩
  | .hbm, ⟨8, _⟩ => ⟨S4x1x2048, .f32⟩
  | .hbm, ⟨9, _⟩ => ⟨S3x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S8192x1024, .f32⟩
  | .local _ .vmem, ⟨0, _⟩ => ⟨S1x1x2048, .f32⟩
  | .local _ .vmem, ⟨1, _⟩ => ⟨S1x1x2048, .f32⟩
  | .local _ .vmem, ⟨2, _⟩ => ⟨S1x512, .f32⟩
  | .local _ .vmem, ⟨3, _⟩ => ⟨S1x512, .f32⟩
  | .local _ .vmem, ⟨4, _⟩ => ⟨S3x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x1024, .f32⟩
  | .local _ .vmem, ⟨9, _⟩ => ⟨S2048x1024, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048 : Shape := ⟨2, ![4, 2048]⟩
abbrev S512x3 : Shape := ⟨2, ![512, 3]⟩
abbrev S512 : Shape := ⟨1, ![512]⟩
abbrev S10 : Shape := ⟨1, ![10]⟩
abbrev S8192x1 : Shape := ⟨2, ![8192, 1]⟩
abbrev S1x256 : Shape := ⟨2, ![1, 256]⟩
abbrev S_ : Shape := ⟨0, ![]⟩
abbrev S8192x256 : Shape := ⟨2, ![8192, 256]⟩
abbrev S8192x256x1 : Shape := ⟨3, ![8192, 256, 1]⟩
abbrev S8192x256x2 : Shape := ⟨3, ![8192, 256, 2]⟩
abbrev S8192x512 : Shape := ⟨2, ![8192, 512]⟩
abbrev S8192 : Shape := ⟨1, ![8192]⟩
abbrev S1 : Shape := ⟨1, ![1]⟩
abbrev S1x1 : Shape := ⟨2, ![1, 1]⟩
abbrev S1x10 : Shape := ⟨2, ![1, 10]⟩
abbrev S8192x10 : Shape := ⟨2, ![8192, 10]⟩
abbrev S8192x3 : Shape := ⟨2, ![8192, 3]⟩
abbrev S3x512 : Shape := ⟨2, ![3, 512]⟩
abbrev S1x512 : Shape := ⟨2, ![1, 512]⟩
abbrev S8192x1024 : Shape := ⟨2, ![8192, 1024]⟩

abbrev nBuf : Space → Nat
  | .hbm => 164
  | .vmem => 0
  | .smem => 0
  | _ => 0

abbrev hbmTy0_0 (i : Nat) : BufTy := match i % 128 with
  | 0 => ⟨S4x2048, .i32⟩
  | 1 => ⟨S512x3, .f32⟩
  | 2 => ⟨S512, .f32⟩
  | 3 => ⟨S512, .f32⟩
  | 4 => ⟨S512, .f32⟩
  | 5 => ⟨S10, .i32⟩
  | 6 => ⟨S8192x1, .f32⟩
  | 7 => ⟨S1x256, .f32⟩
  | 8 => ⟨S_, .f32⟩
  | 9 => ⟨S1x256, .f32⟩
  | 10 => ⟨S1x256, .f32⟩
  | 11 => ⟨S_, .f32⟩
  | 12 => ⟨S_, .f32⟩
  | 13 => ⟨S_, .f32⟩
  | 14 => ⟨S_, .f32⟩
  | 15 => ⟨S_, .f32⟩
  | 16 => ⟨S1x256, .f32⟩
  | 17 => ⟨S1x256, .f32⟩
  | 18 => ⟨S1x256, .f32⟩
  | 19 => ⟨S8192x256, .f32⟩
  | 20 => ⟨S8192x256, .f32⟩
  | 21 => ⟨S8192x256, .f32⟩
  | 22 => ⟨S8192x256, .f32⟩
  | 23 => ⟨S8192x256, .f32⟩
  | 24 => ⟨S8192x256x1, .f32⟩
  | 25 => ⟨S8192x256x1, .f32⟩
  | 26 => ⟨S8192x256x2, .f32⟩
  | 27 => ⟨S8192x512, .f32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S1, .i32⟩
  | 38 => ⟨S_, .i32⟩
  | 39 => ⟨S8192x1, .i32⟩
  | 40 => ⟨S8192x1, .i1⟩
  | 41 => ⟨S1x1, .i32⟩
  | 42 => ⟨S8192x1, .i32⟩
  | 43 => ⟨S8192x1, .i1⟩
  | 44 => ⟨S8192x1, .i1⟩
  | 45 => ⟨S_, .i1⟩
  | 46 => ⟨S8192, .i1⟩
  | 47 => ⟨S8192x512, .f32⟩
  | 48 => ⟨S8192x512, .i1⟩
  | 49 => ⟨S_, .f32⟩
  | 50 => ⟨S8192x512, .f32⟩
  | 51 => ⟨S8192x512, .f32⟩
  | 52 => ⟨S1x10, .i32⟩
  | 53 => ⟨S8192x1, .i32⟩
  | 54 => ⟨S8192x10, .i32⟩
  | 55 => ⟨S8192x10, .i32⟩
  | 56 => ⟨S8192x10, .i1⟩
  | 57 => ⟨S8192x10, .i32⟩
  | 58 => ⟨S_, .i32⟩
  | 59 => ⟨S8192, .i32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S_, .i32⟩
  | 67 => ⟨S_, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192, .i32⟩
  | 83 => ⟨S8192, .i32⟩
  | 84 => ⟨S_, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i1⟩
  | 91 => ⟨S_, .i32⟩
  | 92 => ⟨S_, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S8192, .i32⟩
  | 108 => ⟨S8192, .i32⟩
  | 109 => ⟨S_, .i32⟩
  | 110 => ⟨S_, .i32⟩
  | 111 => ⟨S8192, .i32⟩
  | 112 => ⟨S8192, .i32⟩
  | 113 => ⟨S8192x1, .i32⟩
  | 114 => ⟨S8192x1, .i32⟩
  | 115 => ⟨S8192x1, .i32⟩
  | 116 => ⟨S8192x3, .i32⟩
  | 117 => ⟨S8192x3, .f32⟩
  | 118 => ⟨S3x512, .f32⟩
  | 119 => ⟨S8192x512, .f32⟩
  | 120 => ⟨S1x512, .f32⟩
  | 121 => ⟨S8192x512, .f32⟩
  | 122 => ⟨S8192x512, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S4x2048, .i32⟩

abbrev hbmTy0_1 (i : Nat) : BufTy := match i % 128 with
  | 0 => ⟨S8192x1, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S8192x512, .f32⟩
  | 13 => ⟨S8192x512, .f32⟩
  | 14 => ⟨S_, .f32⟩
  | 15 => ⟨S8192x1, .f32⟩
  | 16 => ⟨S8192x1, .f32⟩
  | 17 => ⟨S8192x1, .f32⟩
  | 18 => ⟨S8192x512, .f32⟩
  | 19 => ⟨S8192x512, .f32⟩
  | 20 => ⟨S1x512, .f32⟩
  | 21 => ⟨S8192x512, .f32⟩
  | 22 => ⟨S8192x512, .f32⟩
  | 23 => ⟨S1x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x512, .f32⟩
  | 35 => ⟨S8192x1024, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_c_3 : Ref sig .tc := ⟨.hbm, 60, rfl⟩
abbrev main_v28 : Ref sig .tc := ⟨.hbm, 61, rfl⟩
abbrev main_v29 : Ref sig .tc := ⟨.hbm, 62, rfl⟩
abbrev main_c_4 : Ref sig .tc := ⟨.hbm, 63, rfl⟩
abbrev main_v30 : Ref sig .tc := ⟨.hbm, 64, rfl⟩
abbrev main_v31 : Ref sig .tc := ⟨.hbm, 65, rfl⟩
abbrev main_c_5 : Ref sig .tc := ⟨.hbm, 66, rfl⟩
abbrev main_c_6 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v32 : Ref sig .tc := ⟨.hbm, 73, rfl⟩
abbrev main_c_7 : Ref sig .tc := ⟨.hbm, 74, rfl⟩
abbrev main_v33 : Ref sig .tc := ⟨.hbm, 75, rfl⟩
abbrev main_v34 : Ref sig .tc := ⟨.hbm, 76, rfl⟩
abbrev main_c_8 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_9 : Ref sig .tc := ⟨.hbm, 84, rfl⟩
abbrev main_call2_v0 : Ref sig .tc := ⟨.hbm, 85, rfl⟩
abbrev main_call2_v1 : Ref sig .tc := ⟨.hbm, 86, rfl⟩
abbrev main_v41 : Ref sig .tc := ⟨.hbm, 87, rfl⟩
abbrev main_c_10 : Ref sig .tc := ⟨.hbm, 88, rfl⟩
abbrev main_v42 : Ref sig .tc := ⟨.hbm, 89, rfl⟩
abbrev main_v43 : Ref sig .tc := ⟨.hbm, 90, rfl⟩
abbrev main_c_11 : Ref sig .tc := ⟨.hbm, 91, rfl⟩
abbrev main_c_12 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v44 : Ref sig .tc := ⟨.hbm, 98, rfl⟩
abbrev main_c_13 : Ref sig .tc := ⟨.hbm, 99, rfl⟩
abbrev main_v45 : Ref sig .tc := ⟨.hbm, 100, rfl⟩
abbrev main_v46 : Ref sig .tc := ⟨.hbm, 101, rfl⟩
abbrev main_c_14 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_c_15 : Ref sig .tc := ⟨.hbm, 109, rfl⟩
abbrev main_call4_v0 : Ref sig .tc := ⟨.hbm, 110, rfl⟩
abbrev main_call4_v1 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_cst_16 : Ref sig .tc := ⟨.hbm, 123, rfl⟩
abbrev main_v64 : Ref sig .tc := ⟨.hbm, 124, rfl⟩
abbrev main_v65 : Ref sig .tc := ⟨.hbm, 125, rfl⟩
abbrev main_cst_17 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_18 : Ref sig .tc := ⟨.hbm, 134, rfl⟩
abbrev main_v73 : Ref sig .tc := ⟨.hbm, 135, rfl⟩
abbrev main_v74 : Ref sig .tc := ⟨.hbm, 136, rfl⟩
abbrev main_cst_19 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_20 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_21 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_22 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩

abbrev nD : Nat := 1
abbrev τ : Topo := Topo.v7x

variable {F : FTy → Type} [FloatOps F]
-- ==== Proof.Block.lean ====
/- What one block of the kernel computes, over the real numbers: the payloads of the body read at an index, when the
   block of positions and the parameters hold real numbers. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.SL.Sem

namespace Cert.Lattice

/-! ## The real functions -/

/-- A finite sum of real numbers, read as an extended real, is the sum of the extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The larger of two real numbers, read as an extended real. -/
theorem coe_max (x y : ℝ) : ((max x y : ℝ) : EReal) = max (x : EReal) (y : EReal) :=
  Monotone.map_max (fun _ _ h => EReal.coe_le_coe_iff.mpr h)

/-- 1 where `s ≤ p`, else 0. -/
def ge (p s : ℝ) : ℝ := if s ≤ p then 1 else 0

/-- The number of spine entries that are at most `p`, as the kernel adds it up. -/
def lvl (p : ℝ) : ℝ :=
  ge p 0 + ge p 2 + ge p 4 + ge p 12 + ge p 36 + ge p 104 + ge p 304 + ge p 888 + ge p 2592 + ge p 7568

/-- The last spine entry that is at most `p`, as the kernel adds up the steps of the spine. -/
def flo (p : ℝ) : ℝ :=
  0 * ge p 0 + 2 * ge p 2 + 2 * ge p 4 + 8 * ge p 12 + 24 * ge p 36 + 68 * ge p 104 + 200 * ge p 304
    + 584 * ge p 888 + 1704 * ge p 2592 + 4976 * ge p 7568

/-- The first spine entry above `p`, as the kernel adds up the steps of the spine (the last entry past the end). -/
def cei (p : ℝ) : ℝ :=
  2 * ge p 0 + 2 * ge p 2 + 8 * ge p 4 + 24 * ge p 12 + 68 * ge p 36 + 200 * ge p 104 + 584 * ge p 304
    + 1704 * ge p 888 + 4976 * ge p 2592

/-- The distance of `p` to the spine entry on its left. -/
def lft (p : ℝ) : ℝ := p - flo p

/-- The distance of `p` to the spine entry on its right. -/
def rgt (p : ℝ) : ℝ := max (cei p - p) 0

/-- A row with its mean taken off. -/
def cen (v : Fin 512 → ℝ) (k : Fin 512) : ℝ := v k - (∑ l, v l) * (1 / 512)

/-- The three columns of the weight and the bias, each with its mean taken off. -/
def rows (w : Fin 3 → Fin 512 → ℝ) (b : Fin 512 → ℝ) (i : Fin 4) (k : Fin 512) : ℝ :=
  if h : i.val < 3 then cen (w ⟨i.val, h⟩) k else cen b k

/-- The mean of the products of two such rows. -/
def gram (w : Fin 3 → Fin 512 → ℝ) (b : Fin 512 → ℝ) (i j : Fin 4) : ℝ :=
  (∑ k, rows w b i k * rows w b j k) * (1 / 512)

/-- The quadratic form of the means of products at `(l, r, v, 1)`, associated as the kernel evaluates it. -/
def quad (G : Fin 4 → Fin 4 → ℝ) (l r v : ℝ) : ℝ :=
  l * (G 0 0 * l + 2 * G 0 1 * r + 2 * G 0 2 * v + 2 * G 0 3) + r * (G 1 1 * r + 2 * G 1 2 * v + 2 * G 1 3)
    + v * (G 2 2 * v + 2 * G 2 3) + G 3 3

/-- The value of the 32-bit word that stands for `1e-5`. -/
def eps : ℝ := 10995116 / 2 ^ 40

/-- The factor that scales a row of the lattice features to variance one. -/
def scale (w : Fin 3 → Fin 512 → ℝ) (b : Fin 512 → ℝ) (p : ℝ) : ℝ :=
  (Real.sqrt (quad (gram w b) (lft p) (rgt p) (lvl p) + eps))⁻¹

/-- The five coefficients of a position: its scaled features, the scale, and one. -/
def act (w : Fin 3 → Fin 512 → ℝ) (b : Fin 512 → ℝ) (p : ℝ) : Fin 5 → ℝ :=
  ![lft p * scale w b p, rgt p * scale w b p, lvl p * scale w b p, scale w b p, 1]

/-- The five rows they multiply: the centred rows times gamma, and beta. -/
def mix (w : Fin 3 → Fin 512 → ℝ) (b g be : Fin 512 → ℝ) (i : Fin 5) (k : Fin 512) : ℝ :=
  if h : i.val < 4 then rows w b ⟨i.val, h⟩ k * g k else be k

/-- The normalised lattice encoding of position `p` at column `k`, before the activation, as the kernel computes it. -/
def hn (w : Fin 3 → Fin 512 → ℝ) (b g be : Fin 512 → ℝ) (p : ℝ) (k : Fin 512) : ℝ :=
  ∑ i, act w b p i * mix w b g be i k

/-- The real number of turns `u`, brought to `[-1, 1)`. -/
def turn (u : ℝ) : ℝ := 2 * (u - (⌊u⌋ : ℝ)) - 1

/-- The odd polynomial of degree 7 that the kernel takes for the sine of `π t`. -/
def wave (t : ℝ) : ℝ :=
  t * (13167082 / 2 ^ 22 + t * t * (-(10771790 / 2 ^ 21) + t * t * (10211741 / 2 ^ 22 + t * t * (-(14690149 / 2 ^ 25)))))

/-- The variance form is a mean of squares, so it is at least 0. -/
theorem quad_eq (w : Fin 3 → Fin 512 → ℝ) (b : Fin 512 → ℝ) (l r v : ℝ) :
    quad (gram w b) l r v
      = (∑ k, (l * rows w b 0 k + r * rows w b 1 k + v * rows w b 2 k + rows w b 3 k)
          * (l * rows w b 0 k + r * rows w b 1 k + v * rows w b 2 k + rows w b 3 k)) * (1 / 512) := by
  have e : ∀ k, (l * rows w b 0 k + r * rows w b 1 k + v * rows w b 2 k + rows w b 3 k)
        * (l * rows w b 0 k + r * rows w b 1 k + v * rows w b 2 k + rows w b 3 k)
      = l * l * (rows w b 0 k * rows w b 0 k) + 2 * l * r * (rows w b 0 k * rows w b 1 k)
        + 2 * l * v * (rows w b 0 k * rows w b 2 k) + 2 * l * (rows w b 0 k * rows w b 3 k)
        + r * r * (rows w b 1 k * rows w b 1 k) + 2 * r * v * (rows w b 1 k * rows w b 2 k)
        + 2 * r * (rows w b 1 k * rows w b 3 k) + v * v * (rows w b 2 k * rows w b 2 k)
        + 2 * v * (rows w b 2 k * rows w b 3 k) + rows w b 3 k * rows w b 3 k := fun k => by ring
  simp only [e, Finset.sum_add_distrib, ← Finset.mul_sum]
  unfold quad gram
  ring

theorem quad_nonneg (w : Fin 3 → Fin 512 → ℝ) (b : Fin 512 → ℝ) (l r v : ℝ) : 0 ≤ quad (gram w b) l r v := by
  rw [quad_eq]
  exact mul_nonneg (Finset.sum_nonneg fun k _ => mul_self_nonneg _) (by norm_num)

theorem eps_pos : 0 < eps := by unfold eps; norm_num

end Cert.Lattice

namespace Cert.KernelIdeal.Block

open Cert.KernelIdeal Cert.KernelIdeal.Gen Cert.Lattice

/-! ## The constants of the body -/

/-- The words of the normalisation: 1/512, 2, the value of `eps`, 1/2. -/
theorem words_norm : Ideal.ofBits .f32 0x3B000000#32 = ((1 / 512 : ℝ) : EReal)
    ∧ Ideal.ofBits .f32 0x40000000#32 = ((2 : ℝ) : EReal) ∧ Ideal.ofBits .f32 0x3727C5AC#32 = ((eps : ℝ) : EReal)
    ∧ Ideal.ofBits .f32 0x3F000000#32 = ((1 / 2 : ℝ) : EReal) := by
  unfold eps
  refine ⟨?_, ?_, ?_, ?_⟩ <;> (simp [Ideal.ofBits, Ideal.ieee, -EReal.coe_mul, -EReal.coe_neg] <;> norm_num)

/-- The words of the spine and of its steps. -/
theorem words_spine : Ideal.ofBits .f32 0x40800000#32 = ((4 : ℝ) : EReal) ∧ Ideal.ofBits .f32 0x41000000#32 = ((8 : ℝ) : EReal)
    ∧ Ideal.ofBits .f32 0x41400000#32 = ((12 : ℝ) : EReal) ∧ Ideal.ofBits .f32 0x42100000#32 = ((36 : ℝ) : EReal)
    ∧ Ideal.ofBits .f32 0x41C00000#32 = ((24 : ℝ) : EReal) ∧ Ideal.ofBits .f32 0x42D00000#32 = ((104 : ℝ) : EReal)
    ∧ Ideal.ofBits .f32 0x43980000#32 = ((304 : ℝ) : EReal) ∧ Ideal.ofBits .f32 0x445E0000#32 = ((888 : ℝ) : EReal)
    ∧ Ideal.ofBits .f32 0x42880000#32 = ((68 : ℝ) : EReal) ∧ Ideal.ofBits .f32 0x43480000#32 = ((200 : ℝ) : EReal)
    ∧ Ideal.ofBits .f32 0x44120000#32 = ((584 : ℝ) : EReal) ∧ Ideal.ofBits .f32 0x45220000#32 = ((2592 : ℝ) : EReal)
    ∧ Ideal.ofBits .f32 0x44D50000#32 = ((1704 : ℝ) : EReal) ∧ Ideal.ofBits .f32 0x45EC8000#32 = ((7568 : ℝ) : EReal)
    ∧ Ideal.ofBits .f32 0x459B8000#32 = ((4976 : ℝ) : EReal) := by
  refine ⟨?_, ?_, ?_, ?_, ?_, ?_, ?_, ?_, ?_, ?_, ?_, ?_, ?_, ?_, ?_⟩ <;>
    (simp [Ideal.ofBits, Ideal.ieee, -EReal.coe_mul, -EReal.coe_neg] <;> norm_num)

/-- A comparison bit turned into a float is 1 or 0. -/
theorem flag (p s : ℝ) :
    (FloatOps.sitofp .f32 (BitVec.setWidth 32 (BitVec.ofBool (decide ((s : EReal) ≤ (p : EReal))))) : Ideal .f32)
      = ((ge p s : ℝ) : EReal) := by
  unfold ge
  by_cases h : s ≤ p
  · rw [if_pos h, decide_eq_true (EReal.coe_le_coe_iff.mpr h)]
    show (((BitVec.setWidth 32 (BitVec.ofBool true)).toInt : ℝ) : EReal) = _
    rw [show (BitVec.setWidth 32 (BitVec.ofBool true)).toInt = 1 from by decide]
    norm_num
  · rw [if_neg h, decide_eq_false (fun h' => h (EReal.coe_le_coe_iff.mp h'))]
    show (((BitVec.setWidth 32 (BitVec.ofBool false)).toInt : ℝ) : EReal) = _
    norm_num

theorem flag_zero (p : ℝ) :
    (FloatOps.sitofp .f32 (BitVec.setWidth 32 (BitVec.ofBool (decide ((0 : EReal) ≤ (p : EReal))))) : Ideal .f32)
      = ((ge p 0 : ℝ) : EReal) := flag p 0

/-! ## The payloads at an index -/

variable {x0 : Vec Ideal S1x1x2048 .f32} {x1 x2 x4 x5 x6 : Vec Ideal S1x512 .f32} {x3 : Vec Ideal S3x512 .f32}
variable {p : Fin 2048 → ℝ} {df ph b g be : Fin 512 → ℝ} {w : Fin 3 → Fin 512 → ℝ}

/-- The centred rows. -/
theorem pay59 (h3 : ∀ i k, x3 (ix2 i k) = ((w i k : ℝ) : EReal)) (h4 : ∀ k, x4 (ix2 0 k) = ((b k : ℝ) : EReal)) (i : Fin 4) (k : Fin 512) :
    k0_pay59 x0 x1 x2 x3 x4 x5 x6 (ix2 i k) = ((rows w b i k : ℝ) : EReal) := by
  have e : ∀ i : Fin 1, i = 0 := fun i => Subsingleton.elim _ _
  pointwise [k0_pay59, k0_pay8, r0_0, r0_1]
  simp only [words_norm.1, h3, e, h4, ← coe_sum, ← EReal.coe_mul, ← EReal.coe_sub]
  unfold rows cen
  split <;> rfl

/-- The means of products of the centred rows. -/
theorem pay60 (h3 : ∀ i k, x3 (ix2 i k) = ((w i k : ℝ) : EReal)) (h4 : ∀ k, x4 (ix2 0 k) = ((b k : ℝ) : EReal)) :
    k0_pay60 x0 x1 x2 x3 x4 x5 x6 (ix2 0 0) = ((gram w b 0 0 : ℝ) : EReal)
    ∧ k0_pay61 x0 x1 x2 x3 x4 x5 x6 (ix2 0 0) = ((gram w b 1 1 : ℝ) : EReal)
    ∧ k0_pay62 x0 x1 x2 x3 x4 x5 x6 (ix2 0 0) = ((gram w b 2 2 : ℝ) : EReal)
    ∧ k0_pay63 x0 x1 x2 x3 x4 x5 x6 (ix2 0 0) = ((gram w b 3 3 : ℝ) : EReal)
    ∧ k0_pay64 x0 x1 x2 x3 x4 x5 x6 (ix2 0 0) = ((2 * gram w b 0 1 : ℝ) : EReal)
    ∧ k0_pay65 x0 x1 x2 x3 x4 x5 x6 (ix2 0 0) = ((2 * gram w b 0 2 : ℝ) : EReal)
    ∧ k0_pay66 x0 x1 x2 x3 x4 x5 x6 (ix2 0 0) = ((2 * gram w b 1 2 : ℝ) : EReal)
    ∧ k0_pay67 x0 x1 x2 x3 x4 x5 x6 (ix2 0 0) = ((2 * gram w b 0 3 : ℝ) : EReal)
    ∧ k0_pay68 x0 x1 x2 x3 x4 x5 x6 (ix2 0 0) = ((2 * gram w b 1 3 : ℝ) : EReal)
    ∧ k0_pay69 x0 x1 x2 x3 x4 x5 x6 (ix2 0 0) = ((2 * gram w b 2 3 : ℝ) : EReal) := by
  have h : ∀ i k, k0_pay8 (View.ld x3 r0_1) (View.ld x4 r0_0) (View.ld x4 r0_0) (ix2 i k) = ((rows w b i k : ℝ) : EReal) := pay59 h3 h4 (x0 := x0) (x1 := x1) (x2 := x2) (x5 := x5) (x6 := x6)
  refine ⟨?_, ?_, ?_, ?_, ?_, ?_, ?_, ?_, ?_, ?_⟩ <;>
  · pointwise [k0_pay60, k0_pay61, k0_pay62, k0_pay63, k0_pay64, k0_pay65, k0_pay66, k0_pay67, k0_pay68, k0_pay69, k0_pay59,
      k0_pay9, k0_pay10, k0_pay11, k0_pay12, k0_pay13, k0_pay14, k0_pay15, k0_pay16, k0_pay17, k0_pay18, k0_pay19, k0_pay20, k0_pay21]
    simp only [words_norm.1, words_norm.2.1, h, ← coe_sum, ← EReal.coe_mul]
    rfl

/-- The positions. -/
theorem pay72 (h0 : ∀ q, x0 (ix3 0 0 q) = ((p q : ℝ) : EReal)) (q : Fin 2048) : k0_pay72 x0 x1 x2 x3 x4 x5 x6 (ix2 0 q) = ((p q : ℝ) : EReal) := by
  pointwise [k0_pay72, k0_pay25, r0_2]
  exact h0 q

/-- The five coefficients of a position. -/
theorem pay81 (h0 : ∀ q, x0 (ix3 0 0 q) = ((p q : ℝ) : EReal)) (h3 : ∀ i k, x3 (ix2 i k) = ((w i k : ℝ) : EReal)) (h4 : ∀ k, x4 (ix2 0 k) = ((b k : ℝ) : EReal))
    (i : Fin 5) (q : Fin 2048) :
    k0_pay81 x0 x1 x2 x3 x4 x5 x6 (ix2 i q) = ((act w b (p q) i : ℝ) : EReal) := by
  have hp := pay72 (x1 := x1) (x2 := x2) (x3 := x3) (x4 := x4) (x5 := x5) (x6 := x6) h0 q
  obtain ⟨g00, g11, g22, g33, g01, g02, g12, g03, g13, g23⟩ := pay60 (x0 := x0) (x1 := x1) (x2 := x2) (x5 := x5) (x6 := x6) h3 h4
  obtain ⟨s4, s8, s12, s36, s24, s104, s304, s888, s68, s200, s584, s2592, s1704, s7568, s4976⟩ := words_spine
  have hs : Ideal.rsqrt ((quad (gram w b) (lft (p q)) (rgt (p q)) (lvl (p q)) + eps : ℝ) : EReal) = ((scale w b (p q) : ℝ) : EReal) := by
    have := quad_nonneg w b (lft (p q)) (rgt (p q)) (lvl (p q))
    have := eps_pos
    rw [Ideal.rsqrt_coe, if_neg (by linarith), if_neg (by linarith)]
    rfl
  unfold k0_pay81
  generalize k0_pay60 x0 x1 x2 x3 x4 x5 x6 = G00 at *
  generalize k0_pay61 x0 x1 x2 x3 x4 x5 x6 = G11 at *
  generalize k0_pay62 x0 x1 x2 x3 x4 x5 x6 = G22 at *
  generalize k0_pay63 x0 x1 x2 x3 x4 x5 x6 = G33 at *
  generalize k0_pay64 x0 x1 x2 x3 x4 x5 x6 = G01 at *
  generalize k0_pay65 x0 x1 x2 x3 x4 x5 x6 = G02 at *
  generalize k0_pay66 x0 x1 x2 x3 x4 x5 x6 = G12 at *
  generalize k0_pay67 x0 x1 x2 x3 x4 x5 x6 = G03 at *
  generalize k0_pay68 x0 x1 x2 x3 x4 x5 x6 = G13 at *
  generalize k0_pay69 x0 x1 x2 x3 x4 x5 x6 = G23 at *
  pointwise [k0_pay47, k0_pay46, k0_pay73, k0_pay74, k0_pay75, k0_pay76, k0_pay77, k0_pay78, k0_pay79, k0_pay26, k0_pay27, k0_pay28, k0_pay29,
    k0_pay30, k0_pay31, k0_pay32, k0_pay33, k0_pay34, k0_pay35, k0_pay36, k0_pay37, k0_pay38, k0_pay40, k0_pay39, k0_pay41, k0_pay42, k0_pay43, k0_pay44, k0_pay45]
  have e : ∀ i : Fin 1, i = 0 := fun i => Subsingleton.elim _ _
  simp only [quad, lft, rgt, lvl, flo, cei] at hs
  simp only [e, hp, g00, g11, g22, g33, g01, g02, g12, g03, g13, g23, words_norm.2.1, words_norm.2.2.1, s4, s8, s12, s36, s24, s104, s304, s888, s68,
    s200, s584, s2592, s1704, s7568, s4976, flag, flag_zero, ← EReal.coe_add, ← EReal.coe_mul, ← EReal.coe_sub, ← EReal.coe_zero, ← coe_max]
  simp only [hs, ← EReal.coe_mul]
  fin_cases i <;> rfl

/-- The rows the coefficients multiply. -/
theorem pay70 (h3 : ∀ i k, x3 (ix2 i k) = ((w i k : ℝ) : EReal)) (h4 : ∀ k, x4 (ix2 0 k) = ((b k : ℝ) : EReal))
    (h5 : ∀ k, x5 (ix2 0 k) = ((g k : ℝ) : EReal)) (h6 : ∀ k, x6 (ix2 0 k) = ((be k : ℝ) : EReal)) (i : Fin 5) (k : Fin 512) :
    k0_pay70 x0 x1 x2 x3 x4 x5 x6 (ix2 i k) = ((mix w b g be i k : ℝ) : EReal) := by
  have h := pay59 (x0 := x0) (x1 := x1) (x2 := x2) (x5 := x5) (x6 := x6) h3 h4
  have e : ∀ i : Fin 1, i = 0 := fun i => Subsingleton.elim _ _
  unfold k0_pay70
  generalize k0_pay59 x0 x1 x2 x3 x4 x5 x6 = R at *
  pointwise [k0_pay23, k0_pay22, r0_0]
  simp only [h, e, h5, h6, ← EReal.coe_mul]
  unfold mix
  split <;> rfl

/-- What the rounding of those rows leaves, over the real numbers: nothing. -/
theorem pay71 (h3 : ∀ i k, x3 (ix2 i k) = ((w i k : ℝ) : EReal)) (h4 : ∀ k, x4 (ix2 0 k) = ((b k : ℝ) : EReal))
    (h5 : ∀ k, x5 (ix2 0 k) = ((g k : ℝ) : EReal)) (h6 : ∀ k, x6 (ix2 0 k) = ((be k : ℝ) : EReal)) (i : Fin 5) (k : Fin 512) :
    k0_pay71 x0 x1 x2 x3 x4 x5 x6 (ix2 i k) = ((0 : ℝ) : EReal) := by
  have h := pay70 (x0 := x0) (x1 := x1) (x2 := x2) h3 h4 h5 h6 i k
  show (k0_pay70 x0 x1 x2 x3 x4 x5 x6 (ix2 i k) - k0_pay70 x0 x1 x2 x3 x4 x5 x6 (ix2 i k) : EReal) = _
  rw [h, ← EReal.coe_sub, sub_self]

/-- The frequencies in three parts, of which the rounded one keeps all, and the phases. -/
theorem pay55 (h1 : ∀ k, x1 (ix2 0 k) = ((df k : ℝ) : EReal)) (h2 : ∀ k, x2 (ix2 0 k) = ((ph k : ℝ) : EReal)) (k : Fin 512) :
    k0_pay54 x0 x1 x2 x3 x4 x5 x6 (ix2 0 k) = ((0 : ℝ) : EReal)
    ∧ k0_pay55 x0 x1 x2 x3 x4 x5 x6 (ix2 0 k) = ((df k : ℝ) : EReal)
    ∧ k0_pay56 x0 x1 x2 x3 x4 x5 x6 (ix2 0 k) = ((0 : ℝ) : EReal)
    ∧ k0_pay57 x0 x1 x2 x3 x4 x5 x6 (ix2 0 k) = ((0 : ℝ) : EReal)
    ∧ k0_pay58 x0 x1 x2 x3 x4 x5 x6 (ix2 0 k) = ((ph k : ℝ) : EReal) := by
  refine ⟨?_, ?_, ?_, ?_, ?_⟩ <;>
  · pointwise [k0_pay54, k0_pay55, k0_pay56, k0_pay57, k0_pay58, k0_pay2, k0_pay3, k0_pay4, k0_pay5, k0_pay6, k0_pay7, r0_0]
    try simp only [h1, h2, ← EReal.coe_sub, sub_self, sub_zero]
    first | done | rfl

/-- The normalised encoding: the matrix product's right half. Of the 21 terms the first six multiply zeros, the last ten
    multiply what a rounding left, and the five between are the coefficients times the rows. -/
theorem pay50 {v2 : FVec Ideal S1x512 .f32} {v3 v6 v9 v10 : FVec Ideal S1x512 .bf16} {v119 v122 : FVec Ideal S5x512 .bf16}
    {v124 v270 : FVec Ideal S1x2048 .f32} {v274 : FVec Ideal S5x2048 .f32} {v275 : FVec Ideal S5x2048 .bf16}
    {A : Fin 5 → ℝ} {M : Fin 5 → ℝ} {p₀ : ℝ} (q : Fin 2048) (k : Fin 512)
    (h2 : v2 (ix2 0 k) = ((0 : ℝ) : EReal)) (h119 : ∀ i, v119 (ix2 i k) = ((M i : ℝ) : EReal)) (h122 : ∀ i, v122 (ix2 i k) = ((0 : ℝ) : EReal))
    (h124 : v124 (ix2 0 q) = ((p₀ : ℝ) : EReal)) (h270 : v270 (ix2 0 q) = ((1 : ℝ) : EReal))
    (h274 : ∀ i, v274 (ix2 i q) = ((A i : ℝ) : EReal)) (h275 : ∀ i, v275 (ix2 i q) = ((A i : ℝ) : EReal)) :
    k0_pay50 v2 v3 v6 v9 v10 v119 v122 v124 v270 v274 v275 (ix2 q k) = ((∑ i, A i * M i : ℝ) : EReal) := by
  have e : ∀ i : Fin 1, i = 0 := fun i => Subsingleton.elim _ _
  pointwise [k0_pay50, k0_pay49]
  simp only [h2, h119, h122, h124, h270, h274, h275, e, ← EReal.coe_sub, sub_self]
  have hsum : (∑ i, A i * M i : ℝ) = ∑ x, (![p₀, p₀, p₀, 0, 0, 1, A 0, A 1, A 2, A 3, A 4, A 0, A 1, A 2, A 3, A 4, 0, 0, 0, 0, 0] : Fin 21 → ℝ) x
      * (![0, 0, 0, 0, 0, 0, M 0, M 1, M 2, M 3, M 4, 0, 0, 0, 0, 0, M 0, M 1, M 2, M 3, M 4] : Fin 21 → ℝ) x := by
    simp [Fin.sum_univ_succ]
  rw [hsum, coe_sum]
  refine Finset.sum_congr rfl fun x _ => ?_
  rw [EReal.coe_mul]
  congr 1
  · fin_cases x <;> rfl
  · fin_cases x <;> rfl

/-- The words of the polynomial. -/
theorem words_wave : Ideal.ofBits .f32 0x4048E9EA#32 = ((13167082 / 2 ^ 22 : ℝ) : EReal)
    ∧ Ideal.ofBits .f32 0xC0A45D4E#32 = ((-(10771790 / 2 ^ 21) : ℝ) : EReal)
    ∧ Ideal.ofBits .f32 0x401BD19D#32 = ((10211741 / 2 ^ 22 : ℝ) : EReal)
    ∧ Ideal.ofBits .f32 0xBEE02765#32 = ((-(14690149 / 2 ^ 25) : ℝ) : EReal) := by
  refine ⟨?_, ?_, ?_, ?_⟩ <;> (simp [Ideal.ofBits, Ideal.ieee, -EReal.coe_mul, -EReal.coe_neg] <;> norm_num)

/-- The sinusoid: the matrix product's left half, whose only terms that are not zero are the position times the frequency
    and the phase, put through the polynomial. -/
theorem pay51 {v2 : FVec Ideal S1x512 .f32} {v3 v6 v9 v10 : FVec Ideal S1x512 .bf16} {v119 v122 : FVec Ideal S5x512 .bf16}
    {v124 v270 : FVec Ideal S1x2048 .f32} {v274 : FVec Ideal S5x2048 .f32} {v275 : FVec Ideal S5x2048 .bf16}
    {A : Fin 5 → EReal} {d h₀ p₀ : ℝ} (q : Fin 2048) (k : Fin 512)
    (h3 : v3 (ix2 0 k) = ((d : ℝ) : EReal)) (h6 : v6 (ix2 0 k) = ((0 : ℝ) : EReal)) (h9 : v9 (ix2 0 k) = ((0 : ℝ) : EReal))
    (h10 : v10 (ix2 0 k) = ((h₀ : ℝ) : EReal))
    (h124 : v124 (ix2 0 q) = ((p₀ : ℝ) : EReal)) (h270 : v270 (ix2 0 q) = ((1 : ℝ) : EReal))
    (h274 : ∀ i, v274 (ix2 i q) = A i) (h275 : ∀ i, v275 (ix2 i q) = A i) :
    k0_pay51 v2 v3 v6 v9 v10 v119 v122 v124 v270 v274 v275 (ix2 q k) = ((wave (turn (p₀ * d + h₀)) : ℝ) : EReal) := by
  have e : ∀ i : Fin 1, i = 0 := fun i => Subsingleton.elim _ _
  have h49 : k0_pay49 v2 v3 v6 v9 v10 v119 v122 v124 v270 v274 v275 (ix2 q ⟨k.val, by have := k.isLt; omega⟩) = ((p₀ * d + h₀ : ℝ) : EReal) := by
    pointwise [k0_pay49]
    simp only [h3, h6, h9, h10, h124, h270, h274, h275, e, ← EReal.coe_sub, sub_self]
    have hsum : (p₀ * d + h₀ : ℝ) = ∑ x, (![p₀, p₀, p₀, 0, 0, 1, 0, 0, 0, 0, 0, 0, 0, 0, 0, 0, 0, 0, 0, 0, 0] : Fin 21 → ℝ) x
        * (![d, 0, 0, d, 0, h₀, 0, 0, 0, 0, 0, 0, 0, 0, 0, 0, 0, 0, 0, 0, 0] : Fin 21 → ℝ) x := by
      simp [Fin.sum_univ_succ]
    rw [hsum, coe_sum]
    refine Finset.sum_congr rfl fun x _ => ?_
    by_cases hx : x.val < 6
    · rw [EReal.coe_mul]
      congr 1
      · fin_cases x <;> first | rfl | exact absurd hx (by decide)
      · fin_cases x <;> first | rfl | exact absurd hx (by decide)
    · fin_cases x <;> first | exact absurd (by decide) hx | exact (mul_zero _).trans (by norm_num)
  unfold k0_pay51
  generalize k0_pay49 v2 v3 v6 v9 v10 v119 v122 v124 v270 v274 v275 = M at *
  pointwise
  simp only [h49, words_norm.2.1, words_wave.1, words_wave.2.1, words_wave.2.2.1, words_wave.2.2.2,
    show Ideal.liftRound Int.floor ((p₀ * d + h₀ : ℝ) : EReal) = (((⌊p₀ * d + h₀⌋ : ℤ) : ℝ) : EReal) from rfl,
    ← EReal.coe_one, ← EReal.coe_sub, ← EReal.coe_mul, ← EReal.coe_add]
  rfl

/-- The activation: half of `h`, times one plus the error function of `h` times the constant that stands for `1/√2`. -/
def gelu (h : ℝ) : EReal :=
  Ideal.ofBits .f32 0x3F000000#32 * (h : EReal) * (1 + Ideal.erf ((h : EReal) * Ideal.ofBits .f32 0x3F3504F3#32))

/-- The right half of the product put through the activation. -/
theorem pay52 {v2 : FVec Ideal S1x512 .f32} {v3 v6 v9 v10 : FVec Ideal S1x512 .bf16} {v119 v122 : FVec Ideal S5x512 .bf16}
    {v124 v270 : FVec Ideal S1x2048 .f32} {v274 : FVec Ideal S5x2048 .f32} {v275 : FVec Ideal S5x2048 .bf16} {h : ℝ} (i : S2048x512.Idx)
    (h50 : k0_pay50 v2 v3 v6 v9 v10 v119 v122 v124 v270 v274 v275 i = (h : EReal)) :
    k0_pay1 (k0_pay52 v2 v3 v6 v9 v10 v119 v122 v124 v270 v274 v275) (k0_pay53 v2 v3 v6 v9 v10 v119 v122 v124 v270 v274 v275) i
      = gelu h := by
  unfold k0_pay1 k0_pay52 k0_pay53
  generalize k0_pay50 v2 v3 v6 v9 v10 v119 v122 v124 v270 v274 v275 = M at *
  pointwise
  rw [h50]
  rfl

theorem pay80 (q : Fin 2048) : k0_pay80 x0 x1 x2 x3 x4 x5 x6 (ix2 0 q) = ((1 : ℝ) : EReal) := Ideal.ofBits_one_f32

/-- Rounding the coefficients changes nothing over the real numbers. -/
theorem pay82 (i : Fin 5) (q : Fin 2048) : k0_pay82 x0 x1 x2 x3 x4 x5 x6 (ix2 i q) = k0_pay81 x0 x1 x2 x3 x4 x5 x6 (ix2 i q) := rfl

/-- The left half of a block's output, whatever the parameters hold: the polynomial of the position's turns. -/
theorem out_left (h0 : ∀ q, x0 (ix3 0 0 q) = ((p q : ℝ) : EReal)) (h1 : ∀ k, x1 (ix2 0 k) = ((df k : ℝ) : EReal))
    (h2 : ∀ k, x2 (ix2 0 k) = ((ph k : ℝ) : EReal)) (y : S2048x1024.Idx) (hy : (y 1).val < 512) :
    out0_7 x0 x1 x2 x3 x4 x5 x6 y = ((wave (turn (p (y 0) * df ⟨(y 1).val, hy⟩ + ph ⟨(y 1).val, hy⟩)) : ℝ) : EReal) := by
  have a72 := pay72 (x1 := x1) (x2 := x2) (x3 := x3) (x4 := x4) (x5 := x5) (x6 := x6) h0
  have a55 := pay55 (x0 := x0) (x3 := x3) (x4 := x4) (x5 := x5) (x6 := x6) h1 h2
  unfold out0_7
  canon_tiles x h
  · exact absurd (show (y 1).val = 512 + (x 1).val from h1) (by omega)
  · obtain ⟨q, k, rfl⟩ : ∃ q k, x = ix2 q k := ⟨x 0, x 1, eq_ix2 x⟩
    rw [pay51 (A := fun i => k0_pay81 x0 x1 x2 x3 x4 x5 x6 (ix2 i q)) q k (a55 k).2.1 (a55 k).2.2.1 (a55 k).2.2.2.1 (a55 k).2.2.2.2
      (a72 q) (pay80 q) (fun i => rfl) (fun i => pay82 i q)]
    have hq : y 0 = q := Fin.ext h0
    have e : (⟨(y 1).val, hy⟩ : Fin 512) = k := Fin.ext h1
    rw [hq, e]

/-- The right half of a block's output, when the parameters hold real numbers: the activation of the normalised lattice
    encoding of the position. -/
theorem out_right (h0 : ∀ q, x0 (ix3 0 0 q) = ((p q : ℝ) : EReal)) (h3 : ∀ i k, x3 (ix2 i k) = ((w i k : ℝ) : EReal))
    (h4 : ∀ k, x4 (ix2 0 k) = ((b k : ℝ) : EReal)) (h5 : ∀ k, x5 (ix2 0 k) = ((g k : ℝ) : EReal))
    (h6 : ∀ k, x6 (ix2 0 k) = ((be k : ℝ) : EReal)) (y : S2048x1024.Idx) (hy : 512 ≤ (y 1).val) :
    out0_7 x0 x1 x2 x3 x4 x5 x6 y
      = gelu (hn w b g be (p (y 0)) ⟨(y 1).val - 512, by have : (y 1).val < 1024 := (y 1).isLt; omega⟩) := by
  have a72 := pay72 (x1 := x1) (x2 := x2) (x3 := x3) (x4 := x4) (x5 := x5) (x6 := x6) h0
  have a81 := pay81 (x1 := x1) (x2 := x2) (x5 := x5) (x6 := x6) h0 h3 h4
  have a70 := pay70 (x0 := x0) (x1 := x1) (x2 := x2) h3 h4 h5 h6
  have a71 := pay71 (x0 := x0) (x1 := x1) (x2 := x2) h3 h4 h5 h6
  have a54 : ∀ k, k0_pay54 x0 x1 x2 x3 x4 x5 x6 (ix2 0 k) = ((0 : ℝ) : EReal) := fun k => Ideal.ofBits_zero_f32
  unfold out0_7
  canon_tiles x h
  · obtain ⟨q, k, rfl⟩ : ∃ q k, x = ix2 q k := ⟨x 0, x 1, eq_ix2 x⟩
    rw [pay52 _ (pay50 (A := act w b (p q)) (M := fun i => mix w b g be i k) q k (a54 k) (fun i => a70 i k) (fun i => a71 i k)
      (a72 q) (pay80 q) (fun i => a81 i q) (fun i => (pay82 i q).trans (a81 i q)))]
    have hq : y 0 = q := Fin.ext h0
    have hk : (y 1).val = 512 + k.val := h1
    have e : (⟨(y 1).val - 512, by have : (y 1).val < 1024 := (y 1).isLt; omega⟩ : Fin 512) = k := Fin.ext (by simp only [hk]; omega)
    rw [hq]
    exact congrArg gelu (congrArg (hn w b g be (p q)) e.symm)
  · exact absurd (show (y 1).val = (x 1).val from h1) (by have : (x 1).val < 512 := (x 1).isLt; omega)

end Cert.KernelIdeal.Block

end
-- ==== Proof.Final.lean ====
/- What the kernel's result array holds after the run. -/
module

public import proofs.«01_k».proof.Proof.Block
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Lattice

variable (m : (ℓ : Loc nD τ sig) → Buf (Elt Ideal) ℓ)

/-- The position of row `i` of the result, as a real number. -/
def posR (x : IVec S4x2048 32) (i : Fin 8192) : ℝ :=
  ((x (ix2 ⟨i.val / 2048, by have := i.isLt; omega⟩ ⟨i.val % 2048, by omega⟩)).toInt : ℝ)

/-- The blocks of the windows at grid point `t`: the point's own block of positions and of the result, the whole of the
    parameters. -/
theorem idx0 : ∀ t : Fin grid0.N, (win0_0.index t = ![t.val, 0, 0]) ∧ (win0_1.index t = ![0, 0]) ∧ (win0_2.index t = ![0, 0])
    ∧ (win0_3.index t = ![0, 0]) ∧ (win0_4.index t = ![0, 0]) ∧ (win0_5.index t = ![0, 0]) ∧ (win0_6.index t = ![0, 0])
    ∧ (win0_7.index t = ![t.val, 0]) := by decide +kernel

/-- A row of 512 words is counted by its column. -/
theorem row (k : Fin 512) : S1x512.rowMajor (ix2 0 k) = k :=
  Fin.ext ((by decide +kernel : ∀ k : Fin 512, (S1x512.rowMajor (ix2 0 k)).val = k.val) k)

theorem lt_four (t : Fin cfg0.N) : t.val < 4 := lt_of_lt_of_eq t.isLt (by decide +kernel)

/-- The row of the result that row `q` of block `t` is. -/
def rowOf (t : Fin cfg0.N) (q : Fin 2048) : Fin 8192 := ⟨2048 * t.val + q.val, by have := q.isLt; have := lt_four t; omega⟩

/-- The block of positions at grid point `t`. -/
theorem iblk_pos (c : Dev nD) (t : Fin cfg0.N) (q : Fin 2048) :
    iblk m c 0 t (ix3 0 0 q) = ((posR (m ((c : Thread nD τ).loc main_arg0)) (rowOf t q) : ℝ) : EReal) := by
  have he : (win0_0.blk t).view.emb (ix3 0 0 q) = ix3 ⟨t.val, lt_four t⟩ 0 q := by
    funext a; refine Fin.ext ?_; fin_cases a <;> blk_simp [(idx0 t).1] <;> rfl
  blk_simp [iblk, V]
  rw [he]
  entry_read
  pointwise
  show (((m (c, Proc.tc.devRef main_arg0) (ix2 t q)).toInt : ℝ) : EReal) = _
  unfold posR
  have e : (ix2 ⟨(2048 * t.val + q.val) / 2048, by have := q.isLt; have := lt_four t; omega⟩ ⟨(2048 * t.val + q.val) % 2048, by omega⟩ : S4x2048.Idx) = ix2 t q := by
    refine (ix2_inj _ _ _ _).mpr ⟨Fin.ext ?_, Fin.ext ?_⟩ <;> (have := q.isLt; simp only []; omega)
  exact congrArg (fun j => (((m (c, Proc.tc.devRef main_arg0) j).toInt : ℝ) : EReal)) e.symm

/-- The row of frequencies. -/
theorem iblk_freq (c : Dev nD) (t : Fin cfg0.N) (k : Fin 512) :
    iblk m c 1 t (ix2 0 k) = Ideal.ofBits .f32 (lit0 k) := by
  have he : (win0_1.blk t).view.emb (ix2 0 k) = (ix2 0 k) := by
    funext a; refine Fin.ext ?_; fin_cases a <;> blk_simp [(idx0 t).2.1] <;> rfl
  blk_simp [iblk, V]
  rw [he]
  entry_read
  pointwise
  rw [row]

/-- The row of phases. -/
theorem iblk_phase (c : Dev nD) (t : Fin cfg0.N) (k : Fin 512) :
    iblk m c 2 t (ix2 0 k) = Ideal.ofBits .f32 (lit1 k) := by
  have he : (win0_2.blk t).view.emb (ix2 0 k) = (ix2 0 k) := by
    funext a; refine Fin.ext ?_; fin_cases a <;> blk_simp [(idx0 t).2.2.1] <;> rfl
  blk_simp [iblk, V]
  rw [he]
  entry_read
  pointwise
  rw [row]

/-- The weight, transposed. -/
theorem iblk_weight (c : Dev nD) (t : Fin cfg0.N) (i : Fin 3) (k : Fin 512) :
    iblk m c 3 t (ix2 i k) = m ((c : Thread nD τ).loc main_arg1) (ix2 k i) := by
  have he : (win0_3.blk t).view.emb (ix2 i k) = (ix2 i k) := by
    funext a; refine Fin.ext ?_; fin_cases a <;> blk_simp [(idx0 t).2.2.2.1] <;> rfl
  blk_simp [iblk, V]
  rw [he]
  entry_read
  pointwise

/-- The row bias. -/
theorem iblk_bias (c : Dev nD) (t : Fin cfg0.N) (k : Fin 512) :
    iblk m c 4 t (ix2 0 k) = m ((c : Thread nD τ).loc main_arg2) (ix1 k) := by
  have he : (win0_4.blk t).view.emb (ix2 0 k) = (ix2 0 k) := by
    funext a; refine Fin.ext ?_; fin_cases a <;> blk_simp [(idx0 t).2.2.2.2.1] <;> rfl
  blk_simp [iblk, V]
  rw [he]
  entry_read
  pointwise

/-- The row gamma. -/
theorem iblk_gamma (c : Dev nD) (t : Fin cfg0.N) (k : Fin 512) :
    iblk m c 5 t (ix2 0 k) = m ((c : Thread nD τ).loc main_arg3) (ix1 k) := by
  have he : (win0_5.blk t).view.emb (ix2 0 k) = (ix2 0 k) := by
    funext a; refine Fin.ext ?_; fin_cases a <;> blk_simp [(idx0 t).2.2.2.2.2.1] <;> rfl
  blk_simp [iblk, V]
  rw [he]
  entry_read
  pointwise

/-- The row beta. -/
theorem iblk_beta (c : Dev nD) (t : Fin cfg0.N) (k : Fin 512) :
    iblk m c 6 t (ix2 0 k) = m ((c : Thread nD τ).loc main_arg4) (ix1 k) := by
  have he : (win0_6.blk t).view.emb (ix2 0 k) = (ix2 0 k) := by
    funext a; refine Fin.ext ?_; fin_cases a <;> blk_simp [(idx0 t).2.2.2.2.2.2.1] <;> rfl
  blk_simp [iblk, V]
  rw [he]
  entry_read
  pointwise

/-- Where block `t` of the result lies. -/
theorem emb_row (t : Fin cfg0.N) (y : S2048x1024.Idx) :
    (win0_7.blk t).view.emb y 0 = rowOf t (y 0) ∧ ((win0_7.blk t).view.emb y 1 : Fin 1024) = y 1 := by
  constructor
  · refine Fin.ext ?_
    blk_simp [(idx0 t).2.2.2.2.2.2.2]
    show _ = 2048 * t.val + (y 0).val
    omega
  · refine Fin.ext ?_
    blk_simp [(idx0 t).2.2.2.2.2.2.2]

/-- The left half of the result, whatever the parameters hold: the polynomial of the turns of the row's position. -/
theorem final_left {df ph : Fin 512 → ℝ} (c : Dev nD) (h1 : ∀ k, Ideal.ofBits .f32 (lit0 k) = ((df k : ℝ) : EReal))
    (h2 : ∀ k, Ideal.ofBits .f32 (lit1 k) = ((ph k : ℝ) : EReal)) (i : S8192x1024.Idx) (k : Fin 512) (hk : (i 1).val = k.val) :
    (dats m 0 c).arrAt 7 cfg0.N i
      = ((wave (turn (posR (m ((c : Thread nD τ).loc main_arg0)) (i 0) * df k + ph k)) : ℝ) : EReal) := by
  have h := (dats m 0 c).arrAt_forall_of_covers 7 (fun i v => ∀ k : Fin 512, (i 1).val = k.val → v
    = ((wave (turn (posR (m ((c : Thread nD τ).loc main_arg0)) (i 0) * df k + ph k)) : ℝ) : EReal)) (by decide +kernel) (fun t hf y => ?_) i
  · exact h k hk
  intro k hk
  obtain ⟨e0, e1⟩ := emb_row t y
  have hy : (y 1).val = k.val := (congrArg Fin.val e1).symm.trans hk
  refine Eq.trans (b := out0_7 (iblk m c 0 t) (iblk m c 1 t) (iblk m c 2 t) (iblk m c 3 t) (iblk m c 4 t) (iblk m c 5 t) (iblk m c 6 t) y) ?_ ?_
  · blk_simp
    rw [after0_7]
  · have e : (⟨(y 1).val, hy ▸ k.isLt⟩ : Fin 512) = k := Fin.ext hy
    refine (out_left (p := fun q => posR (m ((c : Thread nD τ).loc main_arg0)) (rowOf t q)) (df := df) (ph := ph) (iblk_pos m c t)
      (fun k => (iblk_freq m c t k).trans (h1 k)) (fun k => (iblk_phase m c t k).trans (h2 k)) y (hy ▸ k.isLt)).trans ?_
    rw [e]
    exact congrArg (fun r => ((wave (turn (posR (m ((c : Thread nD τ).loc main_arg0)) r * df k + ph k)) : ℝ) : EReal)) e0.symm

/-- The right half of the result, when the parameters hold real numbers: the activation of the normalised lattice encoding
    of the row's position. -/
theorem final_right {w : Fin 3 → Fin 512 → ℝ} {b g be : Fin 512 → ℝ} (c : Dev nD)
    (h3 : ∀ i k, m ((c : Thread nD τ).loc main_arg1) (ix2 k i) = ((w i k : ℝ) : EReal))
    (h4 : ∀ k, m ((c : Thread nD τ).loc main_arg2) (ix1 k) = ((b k : ℝ) : EReal))
    (h5 : ∀ k, m ((c : Thread nD τ).loc main_arg3) (ix1 k) = ((g k : ℝ) : EReal))
    (h6 : ∀ k, m ((c : Thread nD τ).loc main_arg4) (ix1 k) = ((be k : ℝ) : EReal))
    (i : S8192x1024.Idx) (k : Fin 512) (hk : (i 1).val = 512 + k.val) :
    (dats m 0 c).arrAt 7 cfg0.N i = gelu (hn w b g be (posR (m ((c : Thread nD τ).loc main_arg0)) (i 0)) k) := by
  have h := (dats m 0 c).arrAt_forall_of_covers 7 (fun i v => ∀ k : Fin 512, (i 1).val = 512 + k.val → v
    = gelu (hn w b g be (posR (m ((c : Thread nD τ).loc main_arg0)) (i 0)) k)) (by decide +kernel) (fun t hf y => ?_) i
  · exact h k hk
  intro k hk
  obtain ⟨e0, e1⟩ := emb_row t y
  have hy : (y 1).val = 512 + k.val := (congrArg Fin.val e1).symm.trans hk
  refine Eq.trans (b := out0_7 (iblk m c 0 t) (iblk m c 1 t) (iblk m c 2 t) (iblk m c 3 t) (iblk m c 4 t) (iblk m c 5 t) (iblk m c 6 t) y) ?_ ?_
  · blk_simp
    rw [after0_7]
  · refine (out_right (p := fun q => posR (m ((c : Thread nD τ).loc main_arg0)) (rowOf t q)) (w := w) (b := b) (g := g) (be := be) (iblk_pos m c t)
      (fun i k => (iblk_weight m c t i k).trans (h3 i k)) (fun k => (iblk_bias m c t k).trans (h4 k)) (fun k => (iblk_gamma m c t k).trans (h5 k))
      (fun k => (iblk_beta m c t k).trans (h6 k)) y (by omega)).trans ?_
    have e : ∀ h, (⟨(y 1).val - 512, h⟩ : Fin 512) = k := fun h => Fin.ext (by simp only [hy]; omega)
    rw [e]
    exact congrArg (fun r => gelu (hn w b g be (posR (m ((c : Thread nD τ).loc main_arg0)) r) k)) e0.symm

end Cert.KernelIdeal.Block

end
-- ==== Proof.RefVal.lean ====
/- What the reference computes in the lattice columns, over the real numbers. -/
module

public import proofs.«01_k».proof.Proof.Block
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.ReferenceIdeal.Lattice

open Cert.ReferenceIdeal Cert.ReferenceIdeal.Gen Cert.ReferenceIdeal.Value

/-! ## The reference, cut into its steps -/

/-- The spine, as the reference holds it. -/
def spine : IVec S10 32 := fun i => lit0 (S10.rowMajor i)

/-- A word on every row. -/
def rowsOf (b : BitVec 32) : IVec S8192 32 := broadcastInDim S8192 ![] bcast_S_S8192 (constantI S_ 32 b)

/-- The positions in one row. -/
def flat (x : IVec S4x2048 32) : IVec S8192 32 := shapeCast _ x shapeCasts_S4x2048_S8192

/-- The number of spine entries at most the position. -/
def levels (f : IVec S8192 32) : IVec S8192 32 :=
  Host.reduce IntOp.addi
    (extui 32 (cmpi .sle (broadcastInDim S8192x10 ![0, 1] bcast_S1x10_S8192x10_0_1 (broadcastInDim S1x10 ![1] bcast_S10_S1x10_1 spine))
      (broadcastInDim S8192x10 ![0, 1] bcast_S8192x1_S8192x10_0_1 (broadcastInDim S8192x1 ![0] bcast_S8192_S8192x1_0 f))) natLt_1_32)
    (constantI S_ 32 0#32) reducesTo_S8192x10_S8192_d1 h_S_

/-- An index clamped to the spine. -/
def clamp (z : IVec S8192 32) : IVec S8192 32 := minsi (rowsOf 9#32) (maxsi (rowsOf 0#32) z)

/-- The spine's entry at an index. -/
def entry (z : IVec S8192 32) : IVec S8192 32 :=
  Host.gather gather_S10_S8192x1_S8192_n_0_n_n_0_1_1 spine
    (broadcastInDim S8192x1 ![0] bcast_S8192_S8192x1_0 (select (cmpi .slt z (rowsOf 0#32)) (addi z (rowsOf 10#32)) z))

/-- The distance to the spine entry on the left. -/
def lefts (f l : IVec S8192 32) : IVec S8192 32 :=
  select (cmpi .sgt l (rowsOf 0#32)) (subi f (entry (clamp (subi l (rowsOf 1#32))))) (rowsOf 0#32)

/-- The distance to the spine entry on the right. -/
def rights (f l : IVec S8192 32) : IVec S8192 32 :=
  select (cmpi .slt l (rowsOf 10#32)) (subi (entry (clamp l)) f) (rowsOf 0#32)

/-- The lattice features, one row per position. -/
def feats (f : IVec S8192 32) : FVec Ideal S8192x3 .f32 :=
  sitofp .f32 (fn_main_v57 (F := Ideal) (broadcastInDim S8192x1 ![0] bcast_S8192_S8192x1_0 (lefts f (levels f)))
    (broadcastInDim S8192x1 ![0] bcast_S8192_S8192x1_0 (rights f (levels f))) (broadcastInDim S8192x1 ![0] bcast_S8192_S8192x1_0 (levels f)))

/-- A row of 512 on every position. -/
def rep (b : FVec Ideal S512 .f32) : FVec Ideal S8192x512 .f32 :=
  broadcastInDim S8192x512 ![0, 1] bcast_S1x512_S8192x512_0_1 (broadcastInDim S1x512 ![1] bcast_S512_S1x512_1 b)

/-- The linear layer. -/
def lin (f : IVec S8192 32) (W : FVec Ideal S512x3 .f32) (b : FVec Ideal S512 .f32) : FVec Ideal S8192x512 .f32 :=
  addf (Host.dotGeneral dot_S8192x3_S3x512_S8192x512_1_0_0_1_n_n none (feats f) (transpose S3x512 [1, 0] W transposes_S512x3_S3x512_1_0)) (rep b)

/-- A number on every row. -/
def cols (b : BitVec 32) : FVec Ideal S8192x1 .f32 := broadcastInDim S8192x1 ![] bcast_S_S8192x1 (constant S_ .f32 b)

/-- The mean of every row. -/
def mean (h : FVec Ideal S8192x512 .f32) : FVec Ideal S8192x1 .f32 :=
  Host.divf (broadcastInDim S8192x1 ![0] bcast_S8192_S8192x1_0 (Host.reduceAdd h (constant S_ .f32 0x00000000#32) reducesTo_S8192x512_S8192_d1 h_S_))
    (cols 0x44000000#32)

/-- Every row less its mean. -/
def dev (h : FVec Ideal S8192x512 .f32) : FVec Ideal S8192x512 .f32 :=
  subf h (broadcastInDim S8192x512 ![0, 1] bcast_S8192x1_S8192x512_0_1 (mean h))

/-- The layer norm. -/
def norm (h : FVec Ideal S8192x512 .f32) (g be : FVec Ideal S512 .f32) : FVec Ideal S8192x512 .f32 :=
  addf (mulf (Host.divf (dev h) (broadcastInDim S8192x512 ![0, 1] bcast_S8192x1_S8192x512_0_1
    (Host.sqrt (addf (mean (mulf (dev h) (dev h))) (cols 0x3727C5AC#32))))) (rep g)) (rep be)

/-- A number at every place. -/
def all (b : BitVec 32) : FVec Ideal S8192x512 .f32 := broadcastInDim S8192x512 ![] bcast_S_S8192x512 (constant S_ .f32 b)

/-- The activation. -/
def acts (n : FVec Ideal S8192x512 .f32) : FVec Ideal S8192x512 .f32 :=
  mulf (mulf (all 0x3F000000#32) n) (Host.erfc (mulf (Host.negf n) (all 0x3F3504F3#32)))

variable (m : (ℓ : Loc nD τ sig) → Buf (Elt Ideal) ℓ)

/-- The reference's result, of which the right half is spelt out. -/
theorem res_split (c : Dev nD) : ∃ a, res_main_v97 m c = fn_main_v97 (F := Ideal) a
    (acts (norm (lin (flat (m ((c.tc : Thread nD τ).loc main_arg0))) (m ((c.tc : Thread nD τ).loc main_arg1)) (m ((c.tc : Thread nD τ).loc main_arg2)))
      (m ((c.tc : Thread nD τ).loc main_arg3)) (m ((c.tc : Thread nD τ).loc main_arg4)))) :=
  ⟨_, rfl⟩

end Cert.ReferenceIdeal.Lattice

end
-- ==== Proof.Spine.lean ====
/- The integer part of the reference: the place of a position among the spine's entries, and its features. -/
module

public import proofs.«01_k».proof.Proof.RefVal
public import Idealize.ShloMosaic.Lib.Routing.OpsSet

@[expose] public section

set_option maxRecDepth 16384

noncomputable section

open Idealize.ShloMosaic Idealize.ShloMosaic.TcCoe Idealize.SL.Sem

namespace Cert.ReferenceIdeal.Lattice

open Cert.ReferenceIdeal Cert.ReferenceIdeal.Gen Cert.ReferenceIdeal.Value Cert.Lattice

/-- The spine's entries. -/
def mark : Fin 10 → Nat := ![0, 2, 4, 12, 36, 104, 304, 888, 2592, 7568]

/-- The reference's spine holds those entries. -/
theorem spine_eq (k : Fin 10) : spine (ix1 k) = BitVec.ofNat 32 (mark k) :=
  (by decide +kernel : ∀ k : Fin 10, lit0 (S10.rowMajor (ix1 k)) = BitVec.ofNat 32 (mark k)) k

theorem mark_lt (k : Fin 10) : mark k < 2 ^ 31 := (by decide : ∀ k : Fin 10, mark k < 2 ^ 31) k

/-- Every number has a last entry at most it. -/
theorem place (n : Nat) : ∃ j : Fin 10, ∀ k, mark k ≤ n ↔ k ≤ j := by
  have mono : ∀ a b : Fin 10, a ≤ b → mark a ≤ mark b := by decide
  let S : Finset (Fin 10) := Finset.univ.filter (fun k => mark k ≤ n)
  have h0 : (0 : Fin 10) ∈ S := Finset.mem_filter.mpr ⟨Finset.mem_univ _, Nat.zero_le n⟩
  refine ⟨S.max' ⟨0, h0⟩, fun k => ⟨fun h => S.le_max' k (Finset.mem_filter.mpr ⟨Finset.mem_univ _, h⟩), fun h => ?_⟩⟩
  exact (mono _ _ h).trans (Finset.mem_filter.mp (S.max'_mem ⟨0, h0⟩)).2

/-- The reference counts the entries up to that one. -/
theorem levels_at (f : IVec S8192 32) (i : Fin 8192) (n : Nat) (hn : n < 2 ^ 31) (hf : f (ix1 i) = BitVec.ofNat 32 n)
    (j : Fin 10) (hj : ∀ k, mark k ≤ n ↔ k ≤ j) : levels f (ix1 i) = BitVec.ofNat 32 (j.val + 1) := by
  have e : levels f (ix1 i) = Finset.fold IntOp.addi 0#32 (fun x => BitVec.setWidth 32 (IntOp.cmpi .sle (spine (ix1 x)) (f (ix1 i)))) Finset.univ := by
    pointwise [levels, spine]
  have e2 : ∀ x ∈ (Finset.univ : Finset (Fin 10)), BitVec.setWidth 32 (IntOp.cmpi .sle (spine (ix1 x)) (f (ix1 i))) = if x ≤ j then 1#32 else 0#32 := by
    intro x _
    rw [spine_eq, hf]
    have h := StableHlo.Predicate.sle_ofNat_iff (mark x) n (mark_lt x) hn
    rw [hj] at h
    change BitVec.setWidth 32 (BitVec.ofBool ((BitVec.ofNat 32 (mark x)).sle (BitVec.ofNat 32 n))) = _
    by_cases hx : x ≤ j
    · rw [if_pos hx, h.mpr hx]
      decide
    · rw [if_neg hx, Idealize.ShloMosaic.ValueIdx.eq_zero_of_ne_one (fun h' => hx (h.mp h'))]
      decide
  rw [e, Finset.fold_congr e2]
  exact (by decide +kernel : ∀ j : Fin 10, Finset.fold IntOp.addi 0#32 (fun x => if x ≤ j then 1#32 else 0#32) (Finset.univ : Finset (Fin 10))
    = BitVec.ofNat 32 (j.val + 1)) j

/-- The entry at a clamped index. -/
theorem entry_at (z : IVec S8192 32) (i : Fin 8192) (k : Fin 10) (hz : z (ix1 i) = BitVec.ofNat 32 k.val) :
    entry (clamp z) (ix1 i) = BitVec.ofNat 32 (mark k) := by
  have e : clamp z (ix1 i) = BitVec.ofNat 32 k.val := by
    pointwise [clamp, rowsOf]
    rw [hz]
    exact (by decide : ∀ k : Fin 10, IntOp.minsi 9#32 (IntOp.maxsi 0#32 (BitVec.ofNat 32 k.val)) = BitVec.ofNat 32 k.val) k
  refine (Routing.gather_take1 _ rfl rfl rfl rfl spine _ i k ?_ (by decide)).trans (spine_eq k)
  pointwise [rowsOf]
  rw [e]
  exact (by decide : ∀ k : Fin 10, Scalar.select (IntOp.cmpi .slt (BitVec.ofNat 32 k.val) 0#32)
    (IntOp.addi (BitVec.ofNat 32 k.val) 10#32) (BitVec.ofNat 32 k.val) = BitVec.ofNat 32 k.val) k

/-- The difference of two small words. -/
theorem subi_small (a b : Nat) (ha : a < 2 ^ 31) (hb : b < 2 ^ 31) :
    (IntOp.subi (BitVec.ofNat 32 a) (BitVec.ofNat 32 b)).toInt = (a : Int) - b := by
  show (BitVec.ofNat 32 a - BitVec.ofNat 32 b).toInt = _
  rw [BitVec.toInt_sub, StableHlo.Predicate.toInt_ofNat_small a ha, StableHlo.Predicate.toInt_ofNat_small b hb]
  exact Int.bmod_eq_of_le (by omega) (by omega)

section
variable (f : IVec S8192 32) (i : Fin 8192) (n : Nat) (hn : n < 2 ^ 31) (hf : f (ix1 i) = BitVec.ofNat 32 n)
  (j : Fin 10) (hj : ∀ k, mark k ≤ n ↔ k ≤ j)

include hn hf hj

/-- The distance on the left is that to the last entry at most the position. -/
theorem lefts_at : (lefts f (levels f) (ix1 i)).toInt = (n : Int) - mark j := by
  have hl := levels_at f i n hn hf j hj
  have e : lefts f (levels f) (ix1 i) = Scalar.select (IntOp.cmpi .sgt (levels f (ix1 i)) 0#32)
      (IntOp.subi (f (ix1 i)) (entry (clamp (subi (levels f) (rowsOf 1#32))) (ix1 i))) 0#32 := by
    pointwise [lefts, rowsOf]
  have e2 : subi (levels f) (rowsOf 1#32) (ix1 i) = BitVec.ofNat 32 j.val := by
    pointwise [rowsOf]
    rw [hl]
    exact (by decide : ∀ j : Fin 10, IntOp.subi (BitVec.ofNat 32 (j.val + 1)) 1#32 = BitVec.ofNat 32 j.val) j
  rw [e, entry_at _ i j e2, hl, hf,
    (by decide : ∀ j : Fin 10, IntOp.cmpi .sgt (BitVec.ofNat 32 (j.val + 1)) 0#32 = 1#1) j]
  exact subi_small n (mark j) hn (mark_lt j)

/-- The distance on the right is that to the first entry above the position, and 0 past the end. -/
theorem rights_at : (rights f (levels f) (ix1 i)).toInt = if h : j.val + 1 < 10 then (mark ⟨j.val + 1, h⟩ : Int) - n else 0 := by
  have hl := levels_at f i n hn hf j hj
  have e : rights f (levels f) (ix1 i) = Scalar.select (IntOp.cmpi .slt (levels f (ix1 i)) 10#32)
      (IntOp.subi (entry (clamp (levels f)) (ix1 i)) (f (ix1 i))) 0#32 := by
    pointwise [rights, rowsOf]
  rw [e]
  by_cases h : j.val + 1 < 10
  · rw [dif_pos h, entry_at _ i ⟨j.val + 1, h⟩ hl, hl, hf,
      (by decide : ∀ j : Fin 10, j.val + 1 < 10 → IntOp.cmpi .slt (BitVec.ofNat 32 (j.val + 1)) 10#32 = 1#1) j h]
    exact subi_small (mark ⟨j.val + 1, h⟩) n (mark_lt _) hn
  · rw [dif_neg h, hl, (by decide : ∀ j : Fin 10, ¬ j.val + 1 < 10 → IntOp.cmpi .slt (BitVec.ofNat 32 (j.val + 1)) 10#32 = 0#1) j h]
    rfl

end

/-- The spine's entries, as real numbers, against a position among them. -/
theorem ge_mark (n : Nat) (j : Fin 10) (hj : ∀ k, mark k ≤ n ↔ k ≤ j) (k : Fin 10) :
    ge (n : ℝ) (mark k : ℝ) = if k ≤ j then 1 else 0 := by
  unfold ge
  simp only [Nat.cast_le, hj k]

/-- The kernel's count, last entry and next entry are those of the position's place. -/
theorem real_place (n : Nat) (j : Fin 10) (hj : ∀ k, mark k ≤ n ↔ k ≤ j) :
    lvl (n : ℝ) = (j.val + 1 : Nat) ∧ flo (n : ℝ) = (mark j : ℝ)
      ∧ cei (n : ℝ) = if h : j.val + 1 < 10 then (mark ⟨j.val + 1, h⟩ : ℝ) else (mark j : ℝ) := by
  have h0 := ge_mark n j hj 0
  have h1 := ge_mark n j hj 1
  have h2 := ge_mark n j hj 2
  have h3 := ge_mark n j hj 3
  have h4 := ge_mark n j hj 4
  have h5 := ge_mark n j hj 5
  have h6 := ge_mark n j hj 6
  have h7 := ge_mark n j hj 7
  have h8 := ge_mark n j hj 8
  have h9 := ge_mark n j hj 9
  simp only [mark, Matrix.cons_val, Nat.cast_ofNat, Nat.cast_zero] at h0 h1 h2 h3 h4 h5 h6 h7 h8 h9
  unfold lvl flo cei
  rw [h0, h1, h2, h3, h4, h5, h6, h7, h8, h9]
  clear h0 h1 h2 h3 h4 h5 h6 h7 h8 h9 hj
  fin_cases j <;> norm_num (decide := true) [mark, Fin.le_def]

/-- The three features of a position. -/
def feat (p : ℝ) : Fin 3 → ℝ := ![lft p, rgt p, lvl p]

/-- The reference's features are the kernel's. -/
theorem feats_at (f : IVec S8192 32) (i : Fin 8192) (hf : 0 ≤ (f (ix1 i)).toInt) (t : Fin 3) :
    feats f (ix2 i t) = ((feat ((f (ix1 i)).toInt : ℝ) t : ℝ) : EReal) := by
  obtain ⟨n, hn, hfn⟩ : ∃ n < 2 ^ 31, f (ix1 i) = BitVec.ofNat 32 n := by
    refine ⟨(f (ix1 i)).toNat, ?_, by simp⟩
    have := BitVec.toInt_eq_toNat_cond (f (ix1 i))
    have := (f (ix1 i)).isLt
    split at * <;> omega
  obtain ⟨j, hj⟩ := place n
  obtain ⟨a0, a1, a2⟩ := real_place n j hj
  have b0 := levels_at f i n hn hfn j hj
  have b1 := lefts_at f i n hn hfn j hj
  have b2 := rights_at f i n hn hfn j hj
  have hv : ((f (ix1 i)).toInt : ℝ) = (n : ℝ) := by
    rw [hfn, StableHlo.Predicate.toInt_ofNat_small n hn]
    simp
  have hm : mark j ≤ n := (hj j).mpr le_rfl
  rw [hv]
  match t with
  | 0 =>
    have e : feats f (ix2 i 0) = (((lefts f (levels f) (ix1 i)).toInt : ℝ) : EReal) := by
      pointwise [feats, fn_main_v57]
      rfl
    rw [e, b1]
    show _ = ((lft (n : ℝ) : ℝ) : EReal)
    rw [lft, a1]
    push_cast
    rfl
  | 1 =>
    have e : feats f (ix2 i 1) = (((rights f (levels f) (ix1 i)).toInt : ℝ) : EReal) := by
      pointwise [feats, fn_main_v57]
      rfl
    rw [e, b2]
    show _ = ((rgt (n : ℝ) : ℝ) : EReal)
    rw [rgt, a2]
    by_cases h : j.val + 1 < 10
    · have hlt : (n : ℝ) ≤ (mark ⟨j.val + 1, h⟩ : ℝ) := by
        have := (not_congr (hj ⟨j.val + 1, h⟩)).mpr (by simp [Fin.le_def])
        exact_mod_cast (by omega : n ≤ mark ⟨j.val + 1, h⟩)
      rw [dif_pos h, dif_pos h, max_eq_left (by linarith)]
      push_cast
      rfl
    · rw [dif_neg h, dif_neg h, max_eq_right (by have : (mark j : ℝ) ≤ n := by exact_mod_cast hm
                                                 linarith)]
      push_cast
      rfl
  | 2 =>
    have e : feats f (ix2 i 2) = (((levels f (ix1 i)).toInt : ℝ) : EReal) := by
      pointwise [feats, fn_main_v57]
      rfl
    rw [e, b0, StableHlo.Predicate.toInt_ofNat_small _ (by omega)]
    show _ = ((lvl (n : ℝ) : ℝ) : EReal)
    rw [a0]
    push_cast
    rfl

end Cert.ReferenceIdeal.Lattice

end
-- ==== Proof.RefNorm.lean ====
/- The real part of the reference: the linear layer, the layer norm and the activation are the kernel's. -/
module

public import proofs.«01_k».proof.Proof.Spine

@[expose] public section

set_option maxRecDepth 16384

noncomputable section

open Idealize.ShloMosaic Idealize.ShloMosaic.TcCoe Idealize.SL.Sem

namespace Cert.ReferenceIdeal.Lattice

open Cert.ReferenceIdeal Cert.ReferenceIdeal.Gen Cert.ReferenceIdeal.Value Cert.Lattice

/-- The linear layer's row for a position. -/
def layer (w : Fin 3 → Fin 512 → ℝ) (b : Fin 512 → ℝ) (p : ℝ) (k : Fin 512) : ℝ := ∑ t, feat p t * w t k + b k

/-- The reference's linear layer. -/
theorem lin_at (f : IVec S8192 32) (W : FVec Ideal S512x3 .f32) (B : FVec Ideal S512 .f32) {w : Fin 3 → Fin 512 → ℝ} {b : Fin 512 → ℝ}
    (hw : ∀ t k, W (ix2 k t) = ((w t k : ℝ) : EReal)) (hb : ∀ k, B (ix1 k) = ((b k : ℝ) : EReal)) (i : Fin 8192) (hf : 0 ≤ (f (ix1 i)).toInt)
    (k : Fin 512) : lin f W B (ix2 i k) = ((layer w b ((f (ix1 i)).toInt : ℝ) k : ℝ) : EReal) := by
  have e : lin f W B (ix2 i k) = ∑ x, feats f (ix2 i x) * W (ix2 k x) + B (ix1 k) := by
    pointwise [lin, rep]
  rw [e, hb, layer, EReal.coe_add, coe_sum]
  simp only [feats_at f i hf, hw, EReal.coe_mul]

/-- The words of the reference's layer norm. -/
theorem words_ref : Ideal.ofBits .f32 0x44000000#32 = ((512 : ℝ) : EReal) ∧ Ideal.ofBits .f32 0x3727C5AC#32 = ((eps : ℝ) : EReal) := by
  unfold eps
  refine ⟨?_, ?_⟩ <;> (simp [Ideal.ofBits, Ideal.ieee, -EReal.coe_mul, -EReal.coe_neg] <;> norm_num)

/-- The reference's layer norm of a row of real numbers. -/
theorem norm_at (h : FVec Ideal S8192x512 .f32) (G B : FVec Ideal S512 .f32) {v g be : Fin 512 → ℝ} (i : Fin 8192)
    (hv : ∀ k, h (ix2 i k) = ((v k : ℝ) : EReal)) (hg : ∀ k, G (ix1 k) = ((g k : ℝ) : EReal)) (hb : ∀ k, B (ix1 k) = ((be k : ℝ) : EReal))
    (k : Fin 512) : norm h G B (ix2 i k)
      = ((cen v k * (Real.sqrt ((∑ l, cen v l * cen v l) * (1 / 512) + eps))⁻¹ * g k + be k : ℝ) : EReal) := by
  obtain ⟨c0, c1⟩ := words_ref
  have n0 : (0 : ℝ) ≤ (∑ l, cen v l * cen v l) * (1 / 512) :=
    mul_nonneg (Finset.sum_nonneg fun k _ => mul_self_nonneg _) (by norm_num)
  have n1 : (0 : ℝ) < (∑ l, cen v l * cen v l) * (1 / 512) + eps := by linarith [eps_pos]
  have m0 : ∀ u : FVec Ideal S8192x512 .f32, ∀ a : Fin 512 → ℝ, (∀ k, u (ix2 i k) = ((a k : ℝ) : EReal)) →
      mean u (ix2 i 0) = (((∑ l, a l) * (1 / 512) : ℝ) : EReal) := by
    intro u a ha
    have e : mean u (ix2 i 0) = Ideal.div (∑ l, u (ix2 i l)) (Ideal.ofBits .f32 0x44000000#32) := by
      pointwise [mean, cols]
    rw [e, c0, Ideal.div_coe (by norm_num)]
    simp only [ha]
    rw [← coe_sum, ← EReal.coe_mul]
  have d0 : ∀ l, dev h (ix2 i l) = ((cen v l : ℝ) : EReal) := by
    intro l
    have e : dev h (ix2 i l) = h (ix2 i l) - mean h (ix2 i 0) := by
      pointwise [dev]
    rw [e, hv, m0 h v hv, ← EReal.coe_sub]
    rfl
  have e : norm h G B (ix2 i k) = Ideal.div (dev h (ix2 i k)) (Ideal.sqrt (mean (mulf (dev h) (dev h)) (ix2 i 0) + Ideal.ofBits .f32 0x3727C5AC#32))
      * G (ix1 k) + B (ix1 k) := by
    pointwise [norm, cols, rep]
  rw [e, m0 (mulf (dev h) (dev h)) (fun l => cen v l * cen v l) (fun l => ?_), d0, hg, hb, c1, ← EReal.coe_add, Ideal.sqrt_coe, if_neg (not_lt.mpr n1.le),
    Ideal.div_coe (Real.sqrt_pos.mpr n1).ne', one_div (Real.sqrt _), ← EReal.coe_mul, ← EReal.coe_mul, ← EReal.coe_add]
  have e3 : mulf (dev h) (dev h) (ix2 i l) = dev h (ix2 i l) * dev h (ix2 i l) := by
    pointwise
  rw [e3, d0, ← EReal.coe_mul]

/-- A centred layer row is the features' combination of the centred rows. -/
theorem cen_layer (w : Fin 3 → Fin 512 → ℝ) (b : Fin 512 → ℝ) (p : ℝ) (k : Fin 512) :
    cen (layer w b p) k = lft p * rows w b 0 k + rgt p * rows w b 1 k + lvl p * rows w b 2 k + rows w b 3 k := by
  have e : ∀ l, layer w b p l = lft p * w 0 l + rgt p * w 1 l + lvl p * w 2 l + b l := by
    intro l
    simp [layer, feat, Fin.sum_univ_three]
  have s : ∑ l, layer w b p l = lft p * (∑ l, w 0 l) + rgt p * (∑ l, w 1 l) + lvl p * (∑ l, w 2 l) + ∑ l, b l := by
    simp only [e, Finset.sum_add_distrib, ← Finset.mul_sum]
  have r0 : rows w b 0 k = cen (w 0) k := rfl
  have r1 : rows w b 1 k = cen (w 1) k := rfl
  have r2 : rows w b 2 k = cen (w 2) k := rfl
  have r3 : rows w b 3 k = cen b k := rfl
  rw [r0, r1, r2, r3]
  unfold cen
  rw [s, e]
  ring

/-- The layer norm of the linear layer is the kernel's normalised lattice encoding. -/
theorem norm_layer (w : Fin 3 → Fin 512 → ℝ) (b g be : Fin 512 → ℝ) (p : ℝ) (k : Fin 512) :
    cen (layer w b p) k * (Real.sqrt ((∑ l, cen (layer w b p) l * cen (layer w b p) l) * (1 / 512) + eps))⁻¹ * g k + be k = hn w b g be p k := by
  have q : (∑ l, cen (layer w b p) l * cen (layer w b p) l) * (1 / 512) = quad (gram w b) (lft p) (rgt p) (lvl p) := by
    rw [quad_eq]
    simp only [cen_layer]
  have r0 : mix w b g be 0 k = rows w b 0 k * g k := rfl
  have r1 : mix w b g be 1 k = rows w b 1 k * g k := rfl
  have r2 : mix w b g be 2 k = rows w b 2 k * g k := rfl
  have r3 : mix w b g be 3 k = rows w b 3 k * g k := rfl
  have r4 : mix w b g be 4 k = be k := rfl
  rw [q, cen_layer, hn, Fin.sum_univ_five, r0, r1, r2, r3, r4]
  show (_ * scale w b p) * _ + _ = lft p * scale w b p * _ + rgt p * scale w b p * _ + lvl p * scale w b p * _ + scale w b p * _ + 1 * _
  ring

variable (m : (ℓ : Loc nD τ sig) → Buf (Elt Ideal) ℓ)

/-- The reference's result in the lattice columns, at a position that isn't negative and for real parameters. -/
theorem ref_right {w : Fin 3 → Fin 512 → ℝ} {b g be : Fin 512 → ℝ} (c : Dev nD)
    (h1 : ∀ t k, m ((c.tc : Thread nD τ).loc main_arg1) (ix2 k t) = ((w t k : ℝ) : EReal))
    (h2 : ∀ k, m ((c.tc : Thread nD τ).loc main_arg2) (ix1 k) = ((b k : ℝ) : EReal))
    (h3 : ∀ k, m ((c.tc : Thread nD τ).loc main_arg3) (ix1 k) = ((g k : ℝ) : EReal))
    (h4 : ∀ k, m ((c.tc : Thread nD τ).loc main_arg4) (ix1 k) = ((be k : ℝ) : EReal))
    (r : Fin 8192) (l : Fin 1024) (k : Fin 512) (hl : l.val = 512 + k.val)
    (hp : 0 ≤ (flat (m ((c.tc : Thread nD τ).loc main_arg0)) (ix1 r)).toInt) :
    res_main_v97 m c (ix2 r l)
      = Cert.KernelIdeal.Block.gelu (hn w b g be ((flat (m ((c.tc : Thread nD τ).loc main_arg0)) (ix1 r)).toInt : ℝ) k) := by
  obtain ⟨a, ha⟩ := res_split m c
  have hn' := norm_at _ _ _ r (fun k => lin_at _ _ _ h1 h2 r hp k) h3 h4 k
  rw [norm_layer] at hn'
  rw [ha]
  generalize norm _ _ _ = N at hn' ⊢
  have e : fn_main_v97 (F := Ideal) a (acts N) (ix2 r l) = acts N (ix2 r k) := by
    pointwise [fn_main_v97]
    have hlt : ¬ l.val < 512 := Nat.not_lt.mpr (hl ▸ Nat.le_add_right 512 k.val)
    have hkk : ∀ h, (⟨l.val - 512, h⟩ : Fin 512) = k := fun h => Fin.ext (by show l.val - 512 = k.val; rw [hl, Nat.add_sub_cancel_left])
    exact (dif_neg hlt).trans (congrArg (fun k => acts N (ix2 r k)) (hkk _))
  have e2 : acts N (ix2 r k) = Ideal.ofBits .f32 0x3F000000#32 * N (ix2 r k) * Ideal.erfc (-(N (ix2 r k)) * Ideal.ofBits .f32 0x3F3504F3#32) := by
    pointwise [acts, all]
  rw [e, e2, hn', Cert.KernelIdeal.Block.gelu, EReal.neg_mul, Ideal.erfc_neg]

end Cert.ReferenceIdeal.Lattice

end
-- ==== Proof.Masked.lean ====
/- The lattice columns of the kernel and of the reference are equal, and what the preconditions and the mask say. -/
module

public import proofs.«01_k».proof.Defs
public import proofs.«01_k».proof.Proof.Final
public import proofs.«01_k».proof.Proof.RefNorm
public import proofs.«01_k».proof.Proof.Gen.Pre_plain_numbers
public import proofs.«01_k».proof.Proof.Gen.On_lattice_columns

@[expose] public section

set_option maxRecDepth 16384

noncomputable section

open Idealize.ShloMosaic Idealize.ShloMosaic.TcCoe Idealize.SL.Sem

namespace Cert.Masked

open Cert.KernelIdeal Cert.KernelIdeal.Gen Cert.Lattice

/-- A number below infinity in size is a real number. -/
theorem real_of_abs (x : EReal) (h : Ideal.cmp .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  rw [ht] at h
  have hlt : max x (-x) < ⊤ := by
    have h' : BitVec.ofBool (decide (max x (-x) < ⊤)) = 1#1 := h
    exact of_decide_eq_true ((StableHlo.Predicate.ofBool_eq_one_iff _).mp h')
  have h1 : x ≠ ⊤ := fun e => by simp [e] at hlt
  have h2 : x ≠ ⊥ := fun e => by simp [e] at hlt
  exact (EReal.coe_toReal h1 h2).symm

/-- The mask selects columns from 512 on only. -/
theorem mask_col (x0 : IVec S4x2048 32) (x1 : FVec Ideal S512x3 .f32) (x2 x3 x4 : FVec Ideal S512 .f32) (i : S8192x1024.Idx)
    (h : Cert.On_lattice_columns.fn (F := Ideal) x0 x1 x2 x3 x4 i = 1#1) : 512 ≤ (i 1).val := by
  have key : ∀ r < 1024, IntOp.cmpi .sge (BitVec.ofNat 32 r) 512#32 = 1#1 → 512 ≤ r := by decide
  exact key _ (i 1).isLt h

/-- What the precondition of the equation says: no position is negative, and the parameters are real numbers. -/
theorem pre_reads (x0 : IVec S4x2048 32) (x1 : FVec Ideal S512x3 .f32) (x2 x3 x4 : FVec Ideal S512 .f32)
    (h : (Cert.Pre_plain_numbers.fn (F := Ideal) x0 x1 x2 x3 x4).1 = (fun _ => 1#1)
      ∧ (Cert.Pre_plain_numbers.fn (F := Ideal) x0 x1 x2 x3 x4).2.1 = (fun _ => 1#1)
      ∧ (Cert.Pre_plain_numbers.fn (F := Ideal) x0 x1 x2 x3 x4).2.2.1 = (fun _ => 1#1)
      ∧ (Cert.Pre_plain_numbers.fn (F := Ideal) x0 x1 x2 x3 x4).2.2.2.1 = (fun _ => 1#1)
      ∧ (Cert.Pre_plain_numbers.fn (F := Ideal) x0 x1 x2 x3 x4).2.2.2.2 = (fun _ => 1#1)) :
    (∀ i, 0 ≤ (x0 i).toInt) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) := by
  obtain ⟨h0, h1, h2, h3, h4⟩ := h
  refine ⟨fun i => ?_, fun i => real_of_abs _ (congrFun h1 i), fun i => real_of_abs _ (congrFun h2 i),
    fun i => real_of_abs _ (congrFun h3 i), fun i => real_of_abs _ (congrFun h4 i)⟩
  have e : IntOp.cmpi .sge (x0 i) 0#32 = 1#1 := congrFun h0 i
  have e2 : BitVec.ofBool ((0#32).sle (x0 i)) = 1#1 := e
  rw [StableHlo.Predicate.ofBool_eq_one_iff] at e2
  simpa [BitVec.sle] using e2

/-- The kernel and the reference hold the same numbers in the lattice columns. -/
theorem algebraic : Cert.algebraic_KernelIdeal_ReferenceIdeal_on_lattice_columns_pre_plain_numbers
    (hKernelIdeal := Cert.KernelIdeal.Gen.facts) (hReferenceIdeal := Cert.ReferenceIdeal.Gen.facts)
    (hPre_plain_numbers := Cert.Pre_plain_numbers.Gen.facts) (hOn_lattice_columns := Cert.On_lattice_columns.Gen.facts) := by
  intro m ρ m' ρ' hpre hagree
  refine ⟨fun c => (dats m 0 c).arrAt 7 cfg0.N, ?_, ?_⟩
  · exact (θ_run defs _ _).mono (fun r h c => ⟨fun i _ => congrFun (h c).1 i, (h c).2⟩) (Cert.KernelIdeal.Value.run_blocks (F := Ideal) m ρ)
  · refine (θ_run Cert.ReferenceIdeal.defs _ _).mono (fun r h c => ⟨fun i hi => (congrFun (h c).1 i).trans ?_, (h c).2⟩)
      (Cert.ReferenceIdeal.Value.run (F := Ideal) m' ρ')
    obtain ⟨a0, a1, a2, a3, a4⟩ := hagree c
    obtain ⟨p0, p1, p2, p3, p4⟩ := pre_reads _ _ _ _ _ (hpre c)
    have hc := mask_col _ _ _ _ _ i hi
    have hlt : (i 1).val < 1024 := (i 1).isLt
    have hk : (i 1).val = 512 + (⟨(i 1).val - 512, by omega⟩ : Fin 512).val := by
      show (i 1).val = 512 + ((i 1).val - 512)
      omega
    have hL := Cert.KernelIdeal.Block.final_right m c (fun t k => p1 (ix2 k t)) (fun k => p2 (ix1 k)) (fun k => p3 (ix1 k)) (fun k => p4 (ix1 k))
      i _ hk
    have hfl : Cert.ReferenceIdeal.Lattice.flat (m' ((c.tc : Thread Cert.ReferenceIdeal.nD Cert.ReferenceIdeal.τ).loc Cert.ReferenceIdeal.main_arg0)) (ix1 (i 0))
        = m ((c.tc : Thread nD τ).loc main_arg0) (ix2 ⟨(i 0).val / 2048, by have h8 : (i 0).val < 8192 := (i 0).isLt; omega⟩ ⟨(i 0).val % 2048, by omega⟩) := by
      rw [a0]
      generalize m ((c.tc : Thread nD τ).loc main_arg0) = x
      pointwise [Cert.ReferenceIdeal.Lattice.flat]
    have hR := Cert.ReferenceIdeal.Lattice.ref_right m' c (fun t k => (congrFun a1 (ix2 k t)).trans (p1 (ix2 k t)))
      (fun k => (congrFun a2 (ix1 k)).trans (p2 (ix1 k))) (fun k => (congrFun a3 (ix1 k)).trans (p3 (ix1 k)))
      (fun k => (congrFun a4 (ix1 k)).trans (p4 (ix1 k))) (i 0) (i 1) _ hk (by rw [hfl]; exact p0 _)
    rw [hfl] at hR
    exact ((congrArg _ (eq_ix2 i)).trans hR).trans hL.symm

end Cert.Masked

end
-- ==== Proof.Sine.lean ====
/- How far the kernel's polynomial of degree 7 is from the sine. -/
module

public import proofs.«01_k».proof.Proof.Block
public import Mathlib.Analysis.Complex.Exponential
public import Mathlib.Algebra.Order.Ring.Abs

@[expose] public section

set_option maxRecDepth 16384

noncomputable section

namespace Cert.Lattice

/-- The first eight terms of the sine's series. -/
def series (y : ℝ) : ℝ := ∑ j : Fin 8, (-1) ^ j.val * y ^ (2 * j.val + 1) / ((2 * j.val + 1).factorial : ℝ)

/-- What the series leaves out, up to a size of 4. -/
theorem sine_series (y : ℝ) (hy : |y| ≤ 4) : |Real.sin y - series y| ≤ |y| ^ 16 / (Nat.factorial 16 : ℝ) * 2 := by
  have hx : ‖(y : ℂ) * Complex.I‖ = |y| := by simp
  have h := Complex.exp_bound' (x := (y : ℂ) * Complex.I) (n := 16) (by rw [hx]; norm_num; linarith)
  rw [hx] at h
  refine le_trans ?_ h
  have him : (Complex.exp ((y : ℂ) * Complex.I) - ∑ m ∈ Finset.range 16, ((y : ℂ) * Complex.I) ^ m / (m.factorial : ℂ)).im = Real.sin y - series y := by
    have even : ∀ j : ℕ, ((y : ℂ) * Complex.I) ^ (2 * j) = (((-1) ^ j * y ^ (2 * j) : ℝ) : ℂ) := by
      intro j
      rw [mul_pow, pow_mul Complex.I, Complex.I_sq]
      push_cast
      ring
    have im0 : ∀ j : ℕ, (((y : ℂ) * Complex.I) ^ (2 * j) / ((2 * j).factorial : ℂ)).im = 0 := by
      intro j
      rw [even, ← Complex.ofReal_natCast, ← Complex.ofReal_div, Complex.ofReal_im]
    have im1 : ∀ j : ℕ, (((y : ℂ) * Complex.I) ^ (2 * j + 1) / ((2 * j + 1).factorial : ℂ)).im
        = (-1) ^ j * y ^ (2 * j + 1) / ((2 * j + 1).factorial : ℝ) := by
      intro j
      have e : ((y : ℂ) * Complex.I) ^ (2 * j + 1) / ((2 * j + 1).factorial : ℂ)
          = (((-1) ^ j * y ^ (2 * j + 1) / ((2 * j + 1).factorial : ℝ) : ℝ) : ℂ) * Complex.I := by
        rw [pow_succ, even]
        push_cast
        ring
      rw [e, Complex.im_ofReal_mul, Complex.I_im, mul_one]
    rw [Complex.sub_im, Complex.exp_ofReal_mul_I_im, Complex.im_sum, series]
    have split : ∀ (f : ℕ → ℝ), ∑ m ∈ Finset.range 16, f m = ∑ j : Fin 8, (f (2 * j.val) + f (2 * j.val + 1)) := by
      intro f
      simp [Finset.sum_range_succ, Fin.sum_univ_eight]
      ring
    rw [split]
    refine congrArg (fun z => Real.sin y - z) (Finset.sum_congr rfl fun j _ => ?_)
    rw [im0, im1, zero_add]
  rw [← him]
  exact Complex.abs_im_le_norm _

/-- Fifteen digits of π: the sine of its sixth is one half. -/
theorem pi_near : (31415926535897928 / 10 ^ 16 : ℝ) ≤ Real.pi ∧ Real.pi ≤ (31415926535897934 / 10 ^ 16 : ℝ) := by
  have h2 := Real.two_le_pi
  have h4 := Real.pi_le_four
  have a := sine_series (5235987755982988 / 10 ^ 16) (by norm_num [abs_le])
  have b := sine_series (5235987755982989 / 10 ^ 16) (by norm_num [abs_le])
  rw [abs_of_nonneg (by norm_num : (0 : ℝ) ≤ 5235987755982988 / 10 ^ 16), abs_le] at a
  rw [abs_of_nonneg (by norm_num : (0 : ℝ) ≤ 5235987755982989 / 10 ^ 16), abs_le] at b
  have a' : Real.sin (5235987755982988 / 10 ^ 16) < Real.sin (Real.pi / 6) := by
    rw [Real.sin_pi_div_six]
    refine lt_of_le_of_lt (sub_le_iff_le_add.mp a.2) ?_
    simp only [series, Fin.sum_univ_eight]
    norm_num [Nat.factorial]
  have b' : Real.sin (Real.pi / 6) < Real.sin (5235987755982989 / 10 ^ 16) := by
    rw [Real.sin_pi_div_six]
    refine lt_of_lt_of_le ?_ (by linarith [b.1] : series (5235987755982989 / 10 ^ 16)
      - (5235987755982989 / 10 ^ 16 : ℝ) ^ 16 / (Nat.factorial 16 : ℝ) * 2 ≤ _)
    simp only [series, Fin.sum_univ_eight]
    norm_num [Nat.factorial]
  have ia : (5235987755982988 / 10 ^ 16 : ℝ) ∈ Set.Icc (-(Real.pi / 2)) (Real.pi / 2) := ⟨by linarith, by linarith⟩
  have ib : (5235987755982989 / 10 ^ 16 : ℝ) ∈ Set.Icc (-(Real.pi / 2)) (Real.pi / 2) := ⟨by linarith, by linarith⟩
  have ip : Real.pi / 6 ∈ Set.Icc (-(Real.pi / 2)) (Real.pi / 2) := ⟨by linarith, by linarith⟩
  have c := (Real.strictMonoOn_sin.lt_iff_lt ia ip).mp a'
  have d := (Real.strictMonoOn_sin.lt_iff_lt ip ib).mp b'
  constructor <;> linarith

/-- The coefficients of the kernel's polynomial. -/
def taken : Fin 8 → ℝ := ![13167082 / 2 ^ 22, -(10771790 / 2 ^ 21), 10211741 / 2 ^ 22, -(14690149 / 2 ^ 25), 0, 0, 0, 0]

/-- The coefficients of the sine of `π t`, to 40 bits. -/
def exact : Fin 8 → ℝ :=
  ![3454217652358 / 2 ^ 40, -(5681960290672 / 2 ^ 40), 2803935014581 / 2 ^ 40, -(658898318102 / 2 ^ 40), 90320357503 / 2 ^ 40,
    -(8103874527 / 2 ^ 40), 512705357 / 2 ^ 40, -(24096186 / 2 ^ 40)]

/-- Their differences, in units of the 40th bit. -/
def gap : Fin 8 → Int := ![-2546108550, 34440055152, -126988381877, 177531515670, -90320357503, 8103874527, -512705357, 24096186]

theorem gap_eq (j : Fin 8) : taken j - exact j = (gap j : ℝ) / 2 ^ 40 := by
  fin_cases j <;> norm_num [taken, exact, gap]

/-- The odd polynomial with given coefficients. -/
def odd (a : Fin 8 → ℝ) (t : ℝ) : ℝ := ∑ j, a j * t ^ (2 * j.val + 1)

theorem wave_eq (t : ℝ) : wave t = odd taken t := by
  simp [wave, odd, taken, Fin.sum_univ_eight]
  ring

/-- The coefficients to 40 bits are near those of the sine. -/
theorem exact_near (j : Fin 8) : |exact j - (-1) ^ j.val * Real.pi ^ (2 * j.val + 1) / ((2 * j.val + 1).factorial : ℝ)| ≤ 1 / 10 ^ 11 := by
  obtain ⟨p0, p1⟩ := pi_near
  have l := fun n : ℕ => pow_le_pow_left₀ (by norm_num : (0 : ℝ) ≤ 31415926535897928 / 10 ^ 16) p0 n
  have u := fun n : ℕ => pow_le_pow_left₀ Real.pi_pos.le p1 n
  fin_cases j
  all_goals simp only [exact, Matrix.cons_val, Fin.reduceFinMk]
  · have a := l 1; have b := u 1; norm_num [abs_le, Nat.factorial] at a b ⊢; constructor <;> linarith
  · have a := l 3; have b := u 3; norm_num [abs_le, Nat.factorial] at a b ⊢; constructor <;> linarith
  · have a := l 5; have b := u 5; norm_num [abs_le, Nat.factorial] at a b ⊢; constructor <;> linarith
  · have a := l 7; have b := u 7; norm_num [abs_le, Nat.factorial] at a b ⊢; constructor <;> linarith
  · have a := l 9; have b := u 9; norm_num [abs_le, Nat.factorial] at a b ⊢; constructor <;> linarith
  · have a := l 11; have b := u 11; norm_num [abs_le, Nat.factorial] at a b ⊢; constructor <;> linarith
  · have a := l 13; have b := u 13; norm_num [abs_le, Nat.factorial] at a b ⊢; constructor <;> linarith
  · have a := l 15; have b := u 15; norm_num [abs_le, Nat.factorial] at a b ⊢; constructor <;> linarith

/-- The difference polynomial's positive coefficients at the square `s` of a numerator over 8192, in integers. -/
def plus (s : Nat) : Nat :=
  34440055152 * 8192 ^ 12 * s + s * s * s * (177531515670 * 8192 ^ 8 + s * s * (8103874527 * 8192 ^ 4 + s * s * 24096186))

/-- Its negative coefficients, likewise. -/
def minus (s : Nat) : Nat :=
  2546108550 * 8192 ^ 14 + s * s * (126988381877 * 8192 ^ 10 + s * s * (90320357503 * 8192 ^ 6 + s * s * (512705357 * 8192 ^ 2)))

/-- At every fraction over 8192 up to 1 the two sides differ by little. -/
theorem grid_small (a : Fin 65) (b : Fin 128) : 128 * a.val + b.val ≤ 8192 →
    (128 * a.val + b.val) * plus ((128 * a.val + b.val) * (128 * a.val + b.val)) * 100000
        ≤ 26 * (2 ^ 40 * 8192 ^ 15) + (128 * a.val + b.val) * minus ((128 * a.val + b.val) * (128 * a.val + b.val)) * 100000
      ∧ (128 * a.val + b.val) * minus ((128 * a.val + b.val) * (128 * a.val + b.val)) * 100000
        ≤ 26 * (2 ^ 40 * 8192 ^ 15) + (128 * a.val + b.val) * plus ((128 * a.val + b.val) * (128 * a.val + b.val)) * 100000 := by
  revert a b
  decide +kernel

/-- The difference polynomial. -/
def off (t : ℝ) : ℝ := odd (fun j => (gap j : ℝ) / 2 ^ 40) t

/-- The difference polynomial is small at those fractions. -/
theorem off_grid (m : Nat) (hm : m ≤ 8192) : |off ((m : ℝ) / 8192)| ≤ 26 / 100000 := by
  have h := grid_small ⟨m / 128, by omega⟩ ⟨m % 128, by omega⟩
  simp only [Nat.div_add_mod] at h
  obtain ⟨h1, h2⟩ := h hm
  have e : off ((m : ℝ) / 8192) = ((m * plus (m * m) : Nat) - (m * minus (m * m) : Nat) : ℝ) / (2 ^ 40 * 8192 ^ 15) := by
    simp only [off, odd, gap, Fin.sum_univ_eight, plus, minus, Matrix.cons_val]
    push_cast
    simp
    ring
  have c1 : ((m * plus (m * m) : Nat) : ℝ) * 100000 ≤ 26 * (2 ^ 40 * 8192 ^ 15) + ((m * minus (m * m) : Nat) : ℝ) * 100000 := by exact_mod_cast h1
  have c2 : ((m * minus (m * m) : Nat) : ℝ) * 100000 ≤ 26 * (2 ^ 40 * 8192 ^ 15) + ((m * plus (m * m) : Nat) : ℝ) * 100000 := by exact_mod_cast h2
  rw [e, abs_le, le_div_iff₀ (by positivity), div_le_iff₀ (by positivity)]
  constructor <;> linarith

/-- The difference polynomial changes slowly between 0 and 1. -/
theorem off_slow (s t : ℝ) (hs : |s| ≤ 1) (ht : |t| ≤ 1) : |off t - off s| ≤ 264 / 100 * |t - s| := by
  have e : off t - off s = ∑ j : Fin 8, (gap j : ℝ) / 2 ^ 40 * (t ^ (2 * j.val + 1) - s ^ (2 * j.val + 1)) := by
    simp only [off, odd, ← Finset.sum_sub_distrib, mul_sub]
  have step : ∀ j : Fin 8, |(gap j : ℝ) / 2 ^ 40 * (t ^ (2 * j.val + 1) - s ^ (2 * j.val + 1))|
      ≤ |(gap j : ℝ) / 2 ^ 40| * (2 * j.val + 1) * |t - s| := by
    intro j
    rw [abs_mul, mul_assoc]
    refine mul_le_mul_of_nonneg_left ?_ (abs_nonneg _)
    refine (abs_pow_sub_pow_le t s (2 * j.val + 1)).trans ?_
    have hm : max |t| |s| ^ (2 * j.val + 1 - 1) ≤ 1 := pow_le_one₀ (le_max_of_le_left (abs_nonneg _)) (max_le ht hs)
    have h0 : 0 ≤ |t - s| * ((2 * j.val + 1 : Nat) : ℝ) := by positivity
    calc |t - s| * ((2 * j.val + 1 : Nat) : ℝ) * max |t| |s| ^ (2 * j.val + 1 - 1) ≤ |t - s| * ((2 * j.val + 1 : Nat) : ℝ) * 1 :=
          mul_le_mul_of_nonneg_left hm h0
      _ = (2 * j.val + 1) * |t - s| := by push_cast; ring
  rw [e]
  refine (Finset.abs_sum_le_sum_abs _ _).trans ((Finset.sum_le_sum fun j _ => step j).trans ?_)
  rw [← Finset.sum_mul]
  refine mul_le_mul_of_nonneg_right ?_ (abs_nonneg _)
  simp only [Fin.sum_univ_eight, gap, Matrix.cons_val]
  norm_num [abs_of_pos, abs_of_neg]

/-- The difference polynomial is small from 0 to 1. -/
theorem off_unit (t : ℝ) (h0 : 0 ≤ t) (h1 : t ≤ 1) : |off t| ≤ 43 / 100000 := by
  have f1 := Nat.floor_le (by linarith : (0 : ℝ) ≤ 8192 * t + 1 / 2)
  have f2 := Nat.lt_floor_add_one (8192 * t + 1 / 2)
  generalize ⌊8192 * t + 1 / 2⌋₊ = m at f1 f2
  have hm : m ≤ 8192 := by
    by_contra h
    have : (8193 : ℝ) ≤ m := by exact_mod_cast (by omega : 8193 ≤ m)
    linarith
  have hmr : (m : ℝ) ≤ 8192 := by exact_mod_cast hm
  have hm0 : (0 : ℝ) ≤ m := Nat.cast_nonneg m
  have g := off_grid m hm
  have d : |t - (m : ℝ) / 8192| ≤ 1 / 16384 := by
    rw [abs_le]
    constructor <;> linarith
  have s := off_slow ((m : ℝ) / 8192) t (abs_le.mpr ⟨by linarith, by linarith⟩) (abs_le.mpr ⟨by linarith, h1⟩)
  rw [abs_le] at g s ⊢
  constructor <;> linarith [s.1, s.2, g.1, g.2]

/-- It is odd, so it is small from -1 to 1. -/
theorem off_small (t : ℝ) (ht : |t| ≤ 1) : |off t| ≤ 43 / 100000 := by
  have e : off (-t) = -off t := by
    simp only [off, odd, ← Finset.sum_neg_distrib]
    refine Finset.sum_congr rfl fun j _ => ?_
    rw [Odd.neg_pow ⟨j.val, rfl⟩, mul_neg]
  rcases le_total 0 t with h | h
  · exact off_unit t h (abs_le.mp ht).2
  · have := off_unit (-t) (by linarith) (by linarith [(abs_le.mp ht).1])
    rwa [e, abs_neg] at this

/-- The kernel's polynomial is within 0.00044 of the sine of `π t`. -/
theorem wave_near (t : ℝ) (ht : |t| ≤ 1) : |wave t - Real.sin (Real.pi * t)| ≤ 44 / 100000 := by
  obtain ⟨p0, p1⟩ := pi_near
  have hpi := Real.pi_pos
  have hy : |Real.pi * t| ≤ 3.1416 := by
    rw [abs_mul, abs_of_pos hpi]
    nlinarith [abs_nonneg t]
  have s := sine_series (Real.pi * t) (by linarith)
  have s' : |Real.pi * t| ^ 16 / (Nat.factorial 16 : ℝ) * 2 ≤ 9 / 1000000 := by
    have := pow_le_pow_left₀ (abs_nonneg (Real.pi * t)) hy 16
    norm_num [Nat.factorial] at this ⊢
    linarith
  have e : wave t - series (Real.pi * t) = off t + ∑ j : Fin 8,
      (exact j - (-1) ^ j.val * Real.pi ^ (2 * j.val + 1) / ((2 * j.val + 1).factorial : ℝ)) * t ^ (2 * j.val + 1) := by
    rw [wave_eq, off]
    simp only [odd, series, ← gap_eq, ← Finset.sum_add_distrib, ← Finset.sum_sub_distrib]
    refine Finset.sum_congr rfl fun j _ => ?_
    rw [mul_pow]
    ring
  have r : |∑ j : Fin 8, (exact j - (-1) ^ j.val * Real.pi ^ (2 * j.val + 1) / ((2 * j.val + 1).factorial : ℝ)) * t ^ (2 * j.val + 1)|
      ≤ ∑ j : Fin 8, (1 / 10 ^ 11 : ℝ) := by
    refine (Finset.abs_sum_le_sum_abs _ _).trans (Finset.sum_le_sum fun j _ => ?_)
    rw [abs_mul, abs_pow]
    calc _ ≤ (1 / 10 ^ 11 : ℝ) * 1 := mul_le_mul (exact_near j) (pow_le_one₀ (abs_nonneg t) ht) (by positivity) (by positivity)
      _ = _ := mul_one _
  have r' : ∑ j : Fin 8, (1 / 10 ^ 11 : ℝ) = 8 / 10 ^ 11 := by simp; norm_num
  rw [r'] at r
  have o := off_small t ht
  rw [abs_le] at o r s ⊢
  constructor <;> linarith [o.1, o.2, r.1, r.2, s.1, s.2]

/-- The kernel's half turn: the sine of `π` times the turns brought to `[-1, 1)` is minus the sine of the whole angle. -/
theorem sine_turn (u : ℝ) : Real.sin (Real.pi * turn u) = -Real.sin (2 * Real.pi * u) := by
  have e : Real.pi * turn u = 2 * Real.pi * u - Real.pi - (⌊u⌋ : ℝ) * (2 * Real.pi) := by
    unfold turn
    ring
  rw [e, Real.sin_sub_int_mul_two_pi, Real.sin_sub_pi]

theorem turn_le (u : ℝ) : |turn u| ≤ 1 := by
  unfold turn
  have a := Int.floor_le u
  have b := (Int.lt_floor_add_one u).le
  rw [abs_le]
  constructor <;> linarith

/-- The polynomial of the turns, with a half turn added, is near the sine of the angle. -/
theorem wave_sin (u : ℝ) : |wave (turn (u + 1 / 2)) - Real.sin (2 * Real.pi * u)| ≤ 44 / 100000 := by
  have h := wave_near _ (turn_le (u + 1 / 2))
  have e : 2 * Real.pi * (u + 1 / 2) = 2 * Real.pi * u + Real.pi := by ring
  rwa [sine_turn, e, Real.sin_add_pi, neg_neg] at h

/-- With three quarters of a turn added, it is near the cosine. -/
theorem wave_cos (u : ℝ) : |wave (turn (u + 3 / 4)) - Real.cos (2 * Real.pi * u)| ≤ 44 / 100000 := by
  have h := wave_near _ (turn_le (u + 3 / 4))
  have e : 2 * Real.pi * (u + 3 / 4) = 2 * Real.pi * u + Real.pi / 2 + Real.pi := by ring
  rwa [sine_turn, e, Real.sin_add_pi, Real.sin_add_pi_div_two, neg_neg] at h

end Cert.Lattice

end
-- ==== Proof.Freq.lean ====
/- The kernel's table of frequencies and phases, against the sinusoid's frequencies. -/
module

public import proofs.«01_k».proof.Proof.Sine

@[expose] public section

set_option maxRecDepth 16384

noncomputable section

open Idealize.ShloMosaic Idealize.ShloMosaic.TcCoe Idealize.SL.Sem

namespace Cert.KernelIdeal.Freq

open Cert.KernelIdeal Cert.KernelIdeal.Gen Cert.Lattice

/-- A word's value in units of the 40th bit, for a word whose exponent field is at least 110. -/
def units (w : BitVec 32) : Nat := (2 ^ 23 + (w.extractLsb' 0 23).toNat) * 2 ^ ((w.extractLsb' 23 8).toNat - 110)

/-- The value of a positive word whose exponent field is between 110 and 254. -/
theorem ofBits_units (w : BitVec 32) (h0 : w.extractLsb' 31 1 = 0#1) (h1 : 110 ≤ (w.extractLsb' 23 8).toNat) (h2 : (w.extractLsb' 23 8).toNat < 255) :
    Ideal.ofBits .f32 w = (((units w : ℝ) / 2 ^ 40 : ℝ) : EReal) := by
  show Ideal.ieee 8 23 w = _
  unfold Ideal.ieee
  simp only [h0]
  rw [if_neg (by omega), if_neg (by omega)]
  refine congrArg _ ?_
  unfold units
  obtain ⟨d, hd⟩ := Nat.exists_eq_add_of_le h1
  rw [hd, Nat.add_sub_cancel_left]
  have e : ((110 + d : Nat) : Int) - (2 ^ (8 - 1) - 1) - (23 : Nat) = (d : Int) - 40 := by push_cast; norm_num; ring
  rw [e, zpow_sub₀ (by norm_num : (2 : ℝ) ≠ 0), zpow_natCast]
  push_cast
  norm_num
  ring

/-- A lane's frequency, in turns per position. -/
def df (k : Fin 512) : ℝ := (units (lit0 k) : ℝ) / 2 ^ 40

/-- A lane's phase, in turns: a half on the sine's lanes, three quarters on the cosine's. -/
def ph (k : Fin 512) : ℝ := if k.val % 2 = 0 then 1 / 2 else 3 / 4

/-- The frequency words hold those values. -/
theorem freq_word (k : Fin 512) : Ideal.ofBits .f32 (lit0 k) = ((df k : ℝ) : EReal) := by
  have h : ∀ k : Fin 512, (lit0 k).extractLsb' 31 1 = 0#1 ∧ 110 ≤ ((lit0 k).extractLsb' 23 8).toNat ∧ ((lit0 k).extractLsb' 23 8).toNat < 255 := by
    decide +kernel
  exact ofBits_units _ (h k).1 (h k).2.1 (h k).2.2

/-- The phase words hold those values. -/
theorem phase_word (k : Fin 512) : Ideal.ofBits .f32 (lit1 k) = ((ph k : ℝ) : EReal) := by
  have h : ∀ k : Fin 512, lit1 k = if k.val % 2 = 0 then 0x3F000000#32 else 0x3F400000#32 := by
    decide +kernel
  rw [h, ph]
  split
  · exact Cert.KernelIdeal.Block.words_norm.2.2.2
  · simp [Ideal.ofBits, Ideal.ieee, -EReal.coe_mul, -EReal.coe_neg] <;> norm_num

/-- The sinusoid's frequency of a pair of lanes, in radians per position. -/
def omega (j : Nat) : ℝ := Real.exp (-(Real.log 10000 / 512)) ^ (2 * j)

/-- The numerator over `2^64` of a lower bound on the ratio of two neighbouring frequencies. -/
def ratio : Nat := 17794866020231970093

/-- The ratio of two neighbouring frequencies, the 256th root of 1/10000, to 64 bits. -/
theorem ratio_near : (ratio : ℝ) / 2 ^ 64 ≤ Real.exp (-(Real.log 10000 / 512)) ^ 2 ∧ Real.exp (-(Real.log 10000 / 512)) ^ 2 ≤ ((ratio + 1 : Nat) : ℝ) / 2 ^ 64 := by
  have h : (Real.exp (-(Real.log 10000 / 512)) ^ 2) ^ 256 = 1 / 10000 := by
    rw [← pow_mul, ← Real.exp_nat_mul]
    have : ((2 * 256 : Nat) : ℝ) * -(Real.log 10000 / 512) = -Real.log 10000 := by push_cast; ring
    rw [this, Real.exp_neg, Real.exp_log (by norm_num)]
    norm_num
  have hp : 0 ≤ Real.exp (-(Real.log 10000 / 512)) ^ 2 := by positivity
  constructor
  · refine le_of_pow_le_pow_left₀ (n := 256) (by norm_num) hp ?_
    rw [h, div_pow, div_le_div_iff₀ (by positivity) (by positivity)]
    have : ratio ^ 256 * 10000 ≤ 1 * (2 ^ 64) ^ 256 := by decide +kernel
    exact_mod_cast this
  · refine le_of_pow_le_pow_left₀ (n := 256) (by norm_num) (by positivity) ?_
    rw [h, div_pow, div_le_div_iff₀ (by positivity) (by positivity)]
    have : 1 * (2 ^ 64) ^ 256 ≤ (ratio + 1) ^ 256 * 10000 := by decide +kernel
    exact_mod_cast this

/-- In whole numbers: every lane's frequency word against its power of the ratio. -/
theorem table_near (k : Fin 512) :
    10 ^ 8 * (2 * 31415926535897934 * units (lit0 k) * 2 ^ (64 * (k.val / 2)))
        ≤ 10 ^ 16 * 2 ^ 40 * (6 * 2 ^ (64 * (k.val / 2)) + 10 ^ 8 * ratio ^ (k.val / 2))
      ∧ 10 ^ 16 * 2 ^ 40 * (10 ^ 8 * (ratio + 1) ^ (k.val / 2))
        ≤ 10 ^ 8 * (2 * 31415926535897928 * units (lit0 k) * 2 ^ (64 * (k.val / 2))) + 10 ^ 16 * 2 ^ 40 * (6 * 2 ^ (64 * (k.val / 2))) := by
  revert k
  decide +kernel

/-- Every lane's frequency is within 6e-8 of the sinusoid's. -/
theorem freq_near (k : Fin 512) : |2 * Real.pi * df k - omega (k.val / 2)| ≤ 6 / 10 ^ 8 := by
  obtain ⟨p0, p1⟩ := pi_near
  obtain ⟨r0, r1⟩ := ratio_near
  obtain ⟨t0, t1⟩ := table_near k
  have hd : 0 ≤ df k := by unfold df; positivity
  have w0 := pow_le_pow_left₀ (by positivity) r0 (k.val / 2)
  have w1 := pow_le_pow_left₀ (by positivity) r1 (k.val / 2)
  rw [← pow_mul] at w0 w1
  change _ ≤ omega (k.val / 2) at w0
  change omega (k.val / 2) ≤ _ at w1
  have hu : (units (lit0 k) : ℝ) = df k * 2 ^ 40 := by unfold df; field_simp
  rw [div_pow, ← pow_mul] at w0 w1
  have q : (0 : ℝ) < 2 ^ (64 * (k.val / 2)) := by positivity
  rw [div_le_iff₀ q] at w0
  rw [le_div_iff₀ q] at w1
  have c0 : (10 : ℝ) ^ 8 * (2 * 31415926535897934 * units (lit0 k) * 2 ^ (64 * (k.val / 2)))
        ≤ 10 ^ 16 * 2 ^ 40 * (6 * 2 ^ (64 * (k.val / 2)) + 10 ^ 8 * ratio ^ (k.val / 2)) := by exact_mod_cast t0
  have c1 : (10 : ℝ) ^ 16 * 2 ^ 40 * (10 ^ 8 * ((ratio + 1 : Nat) : ℝ) ^ (k.val / 2))
        ≤ 10 ^ 8 * (2 * 31415926535897928 * units (lit0 k) * 2 ^ (64 * (k.val / 2))) + 10 ^ 16 * 2 ^ 40 * (6 * 2 ^ (64 * (k.val / 2))) := by
    exact_mod_cast t1
  rw [hu] at c0 c1
  generalize (2 : ℝ) ^ (64 * (k.val / 2)) = q2 at *
  have d0 : 2 * (31415926535897934 / 10 ^ 16) * df k * q2 ≤ 6 / 10 ^ 8 * q2 + omega (k.val / 2) * q2 := by linarith
  have d1 : omega (k.val / 2) * q2 ≤ 2 * (31415926535897928 / 10 ^ 16) * df k * q2 + 6 / 10 ^ 8 * q2 := by linarith
  have e0 : 2 * (31415926535897934 / 10 ^ 16) * df k ≤ 6 / 10 ^ 8 + omega (k.val / 2) := by
    refine le_of_mul_le_mul_right ?_ q
    linarith
  have e1 : omega (k.val / 2) ≤ 2 * (31415926535897928 / 10 ^ 16) * df k + 6 / 10 ^ 8 := by
    refine le_of_mul_le_mul_right ?_ q
    linarith
  have f0 : Real.pi * df k ≤ 31415926535897934 / 10 ^ 16 * df k := mul_le_mul_of_nonneg_right p1 hd
  have f1 : 31415926535897928 / 10 ^ 16 * df k ≤ Real.pi * df k := mul_le_mul_of_nonneg_right p0 hd
  rw [abs_le]
  constructor <;> linarith

end Cert.KernelIdeal.Freq

end
-- ==== Proof.Table.lean ====
/- What the statement about the absolute encoding says: the table of the sinusoid, the rows taken from it, the bound. -/
module

public import proofs.«01_k».proof.Defs
public import proofs.«01_k».proof.Proof.Freq
public import proofs.«01_k».proof.Proof.Gen.Pre_in_range
public import proofs.«01_k».proof.Proof.Gen.Post_near_sinusoid
public import Idealize.ShloMosaic.Lib.Routing.OpsSet
public import Idealize.ShloMosaic.Lib.Claim

@[expose] public section

set_option maxRecDepth 16384

noncomputable section

open Idealize.ShloMosaic Idealize.ShloMosaic.TcCoe Idealize.SL.Sem

namespace Cert.Post_near_sinusoid.Read

open Cert.Post_near_sinusoid Cert.Post_near_sinusoid.Gen Cert.Lattice Cert.KernelIdeal.Freq

/-- Every angle: a position times a frequency. -/
def angles : FVec Ideal S8192x256 .f32 :=
  mulf (broadcastInDim S8192x256 ![0, 1] bcast_S8192x1_S8192x256_0_1 (sitofp .f32 (iotaInDim S8192x1 32 0)))
    (broadcastInDim S8192x256 ![0, 1] bcast_S1x256_S8192x256_0_1 (Host.exp (mulf
      (mulf (sitofp .f32 (iotaInDim S1x256 32 1)) (broadcastInDim S1x256 ![] bcast_S_S1x256 (constant S_ .f32 0x40000000#32)))
      (broadcastInDim S1x256 ![] bcast_S_S1x256 (Host.negf (Host.divf (Host.log (constant S_ .f32 0x461C4000#32)) (constant S_ .f32 0x44000000#32)))))))

/-- The table: sines and cosines of the angles in turn. -/
def table (a : FVec Ideal S8192x256 .f32) : FVec Ideal S8192x512 .f32 :=
  shapeCast S8192x512 (concatenate S8192x256x2 2 [⟨S8192x256x1, broadcastInDim S8192x256x1 ![0, 1] bcast_S8192x256_S8192x256x1_0_1 (Host.sin a)⟩,
    ⟨S8192x256x1, broadcastInDim S8192x256x1 ![0, 1] bcast_S8192x256_S8192x256x1_0_1 (Host.cos a)⟩]
    concatenates_S8192x256x1_S8192x256x1_S8192x256x2_d2) shapeCasts_S8192x256x2_S8192x512

/-- The positions in one row. -/
def flat (x : IVec S4x2048 32) : IVec S8192 32 := shapeCast S8192 x shapeCasts_S4x2048_S8192

/-- The statement, cut into its steps. -/
theorem fn_split (x0 : IVec S4x2048 32) (x1 : FVec Ideal S512x3 .f32) (x2 x3 x4 : FVec Ideal S512 .f32) (x5 : FVec Ideal S8192x1024 .f32) :
    fn (F := Ideal) x0 x1 x2 x3 x4 x5 = fn_part1 (F := Ideal) x5 (fn_take (F := Ideal) (table angles) (flat x0)) := rfl

/-- The table's constants: 2, 10000 and 512. -/
theorem words : Ideal.ofBits .f32 0x40000000#32 = ((2 : ℝ) : EReal) ∧ Ideal.ofBits .f32 0x461C4000#32 = ((10000 : ℝ) : EReal)
    ∧ Ideal.ofBits .f32 0x44000000#32 = ((512 : ℝ) : EReal) ∧ ((999 / 1000000 : ℝ) : EReal) ≤ Ideal.ofBits .f32 0x3A83126F#32 := by
  refine ⟨?_, ?_, ?_, ?_⟩
  · simp [Ideal.ofBits, Ideal.ieee, -EReal.coe_mul, -EReal.coe_neg] <;> norm_num
  · simp [Ideal.ofBits, Ideal.ieee, -EReal.coe_mul, -EReal.coe_neg] <;> norm_num
  · simp [Ideal.ofBits, Ideal.ieee, -EReal.coe_mul, -EReal.coe_neg] <;> norm_num
  · simp [Ideal.ofBits, Ideal.ieee, -EReal.coe_mul, -EReal.coe_neg] <;> norm_num

/-- A small number turned into a float. -/
theorem float_small (n : Nat) (hn : n < 2 ^ 31) : (FloatOps.sitofp .f32 (BitVec.ofNat 32 n) : Ideal .f32) = ((n : ℝ) : EReal) := by
  show ((((BitVec.ofNat 32 n).toInt : ℝ)) : EReal) = _
  rw [StableHlo.Predicate.toInt_ofNat_small n hn]
  simp

/-- The angles are the positions times the sinusoid's frequencies. -/
theorem angles_at (r : Fin 8192) (j : Fin 256) : angles (ix2 r j) = ((r.val * omega j.val : ℝ) : EReal) := by
  obtain ⟨w2, w10000, w512, _⟩ := words
  pointwise [angles]
  rw [w2, w10000, w512, float_small _ (by omega), float_small _ (by omega), Ideal.log_coe, if_neg (by norm_num), Ideal.div_coe (by norm_num),
    ← EReal.coe_mul, ← EReal.coe_mul, ← EReal.coe_neg, ← EReal.coe_mul, Ideal.exp_coe, ← EReal.coe_mul]
  refine congrArg (fun z : ℝ => ((r.val * z : ℝ) : EReal)) ?_
  rw [omega, ← Real.exp_nat_mul]
  congr 1
  push_cast
  ring

/-- The table's entry: a sine on even lanes, a cosine on odd ones. -/
theorem table_at (r : Fin 8192) (k : Fin 512) : table angles (ix2 r k)
    = (((if k.val % 2 = 0 then Real.sin (r.val * omega (k.val / 2)) else Real.cos (r.val * omega (k.val / 2))) : ℝ) : EReal) := by
  have e : table angles (ix2 r k) = if h : k.val % 2 < 1 then Ideal.sin (angles (ix2 r ⟨k.val / 2, by omega⟩))
      else Ideal.cos (angles (ix2 r ⟨k.val / 2, by omega⟩)) := by
    pointwise [table]
  rw [e]
  by_cases h : k.val % 2 = 0
  · rw [dif_pos (by omega), if_pos h, angles_at, Ideal.sin_coe]
  · rw [dif_neg (by omega), if_neg h, angles_at, Ideal.cos_coe]

/-- The row that is taken, for a position in range. -/
theorem take_at (a : FVec Ideal S8192x512 .f32) (z : IVec S8192 32) (r : Fin 8192) (n : Fin 8192) (hz : z (ix1 r) = BitVec.ofNat 32 n.val)
    (k : Fin 512) : fn_take (F := Ideal) a z (ix2 r k) = a (ix2 n k) := by
  have hn := n.isLt
  have hi := StableHlo.Predicate.toInt_ofNat_small n.val (by omega)
  have s0 : IntOp.cmpi .slt (BitVec.ofNat 32 n.val) 0#32 = 0#1 := by
    show BitVec.ofBool (decide ((BitVec.ofNat 32 n.val).toInt < 0)) = 0#1
    rw [hi, decide_eq_false (by omega)]
    rfl
  have s1 : IntOp.cmpi .sge (BitVec.ofNat 32 n.val) 0#32 = 1#1 := by
    show BitVec.ofBool (decide (0 ≤ (BitVec.ofNat 32 n.val).toInt)) = 1#1
    rw [hi, decide_eq_true (by omega)]
    rfl
  have s2 : IntOp.cmpi .sle (BitVec.ofNat 32 n.val) 8191#32 = 1#1 := by
    show BitVec.ofBool (decide ((BitVec.ofNat 32 n.val).toInt ≤ 8191)) = 1#1
    rw [hi, decide_eq_true (by omega)]
    rfl
  have u : ∀ (x y : BitVec 32), Scalar.select (0#1) x y = y := fun x y => rfl
  have hg : ∀ idx : IVec S8192x1 32, idx (ix2 r 0) = BitVec.ofNat 32 n.val →
      Host.gather gather_S8192x512_S8192x1_S8192x512_1_0_n_n_0_1_1512 a idx (ix2 r k) = a (ix2 n k) :=
    fun idx h => Routing.gather_row _ rfl rfl rfl rfl rfl a idx r k n h (by decide)
  pointwise [fn_take, fn_where]
  rw [hg _ ?_]
  · simp only [hz, s0, s1, s2, u]
    rfl
  · pointwise
    rw [hz, s0]
    rfl

/-- The statement at one place. -/
theorem bound_at (o : FVec Ideal S8192x1024 .f32) (e : FVec Ideal S8192x512 .f32) (r : Fin 8192) (k : Fin 512) {x y : ℝ}
    (hx : o (ix2 r ⟨k.val, by omega⟩) = ((x : ℝ) : EReal)) (hy : e (ix2 r k) = ((y : ℝ) : EReal)) (h : |x - y| ≤ 999 / 1000000) :
    fn_part1 (F := Ideal) o e (ix2 r k) = 1#1 := by
  pointwise [fn_part1]
  rw [hx, hy, ← EReal.coe_sub]
  have ha : (FloatOps.absf ((x - y : ℝ) : EReal) : Ideal .f32) = ((|x - y| : ℝ) : EReal) := by
    show max ((x - y : ℝ) : EReal) (-((x - y : ℝ) : EReal)) = _
    rw [← EReal.coe_neg, ← coe_max]
    rfl
  rw [ha, decide_eq_true ((EReal.coe_le_coe_iff.mpr h).trans words.2.2.2)]
  rfl

end Cert.Post_near_sinusoid.Read

end
-- ==== Proof.Near.lean ====
/- The columns of the absolute encoding are near the sinusoid, for positions in range. -/
module

public import proofs.«01_k».proof.Proof.Final
public import proofs.«01_k».proof.Proof.Table

@[expose] public section

set_option maxRecDepth 16384

noncomputable section

open Idealize.ShloMosaic Idealize.ShloMosaic.TcCoe Idealize.SL.Sem

namespace Cert.Near

open Cert.KernelIdeal Cert.KernelIdeal.Gen Cert.KernelIdeal.Freq Cert.Lattice

/-- A sine is at most its angle. -/
theorem sine_le (z : ℝ) : |Real.sin z| ≤ |z| := by
  by_cases hz : |z| ≤ 1
  · have b := Real.sin_bound hz
    have e : |z - z ^ 3 / 6| = |z| * (1 - |z| ^ 2 / 6) := by
      have h1 : z - z ^ 3 / 6 = z * (1 - z ^ 2 / 6) := by ring
      have h2 : (0 : ℝ) ≤ 1 - |z| ^ 2 / 6 := by nlinarith [abs_nonneg z]
      rw [h1, abs_mul, ← sq_abs z, abs_of_nonneg h2]
    have t := abs_sub_le (Real.sin z) (z - z ^ 3 / 6) 0
    rw [sub_zero, sub_zero, e] at t
    have h5 : |z| ^ 5 ≤ |z| ^ 3 := pow_le_pow_of_le_one (abs_nonneg z) hz (by norm_num)
    have h3 : 0 ≤ |z| ^ 3 := by positivity
    nlinarith
  · exact (Real.abs_sin_le_one z).trans (le_of_lt (not_le.mp hz))

/-- The sine moves by at most what its angle moves. -/
theorem sine_move (x y : ℝ) : |Real.sin x - Real.sin y| ≤ |x - y| := by
  rw [Real.sin_sub_sin, abs_mul, abs_mul, abs_two]
  have a := sine_le ((x - y) / 2)
  rw [abs_div, abs_two] at a
  have b := Real.abs_cos_le_one ((x + y) / 2)
  nlinarith [abs_nonneg (Real.sin ((x - y) / 2)), abs_nonneg (Real.cos ((x + y) / 2))]

/-- So does the cosine. -/
theorem cosine_move (x y : ℝ) : |Real.cos x - Real.cos y| ≤ |x - y| := by
  have h := sine_move (x + Real.pi / 2) (y + Real.pi / 2)
  rwa [Real.sin_add_pi_div_two, Real.sin_add_pi_div_two, add_sub_add_right_eq_sub] at h

/-- At a position up to 8191 the kernel's polynomial is within 0.00094 of the table's entry: the polynomial's own error, and the
    position times the error of the frequency word. -/
theorem lane_near (n : Nat) (hn : n < 8192) (k : Fin 512) :
    |wave (turn (n * df k + ph k)) - (if k.val % 2 = 0 then Real.sin (n * omega (k.val / 2)) else Real.cos (n * omega (k.val / 2)))| ≤ 940 / 1000000 := by
  have hd := freq_near k
  have hn' : (n : ℝ) ≤ 8191 := by exact_mod_cast (by omega : n ≤ 8191)
  have ha : |2 * Real.pi * (n * df k) - n * omega (k.val / 2)| ≤ 495 / 1000000 := by
    have e : 2 * Real.pi * (n * df k) - n * omega (k.val / 2) = n * (2 * Real.pi * df k - omega (k.val / 2)) := by ring
    rw [e, abs_mul, abs_of_nonneg (Nat.cast_nonneg n)]
    calc (n : ℝ) * |2 * Real.pi * df k - omega (k.val / 2)| ≤ 8191 * (6 / 10 ^ 8) := mul_le_mul hn' hd (abs_nonneg _) (by norm_num)
      _ ≤ 495 / 1000000 := by norm_num
  unfold ph
  split
  · have h1 := wave_sin (n * df k)
    have h2 := (sine_move (2 * Real.pi * (n * df k)) (n * omega (k.val / 2))).trans ha
    have h3 := abs_sub_le (wave (turn (n * df k + 1 / 2))) (Real.sin (2 * Real.pi * (n * df k))) (Real.sin (n * omega (k.val / 2)))
    linarith
  · have h1 := wave_cos (n * df k)
    have h2 := (cosine_move (2 * Real.pi * (n * df k)) (n * omega (k.val / 2))).trans ha
    have h3 := abs_sub_le (wave (turn (n * df k + 3 / 4))) (Real.cos (2 * Real.pi * (n * df k))) (Real.cos (n * omega (k.val / 2)))
    linarith

/-- What the precondition says: every position is a number from 0 to 8191. -/
theorem pre_reads (x0 : IVec S4x2048 32) (x1 : FVec Ideal S512x3 .f32) (x2 x3 x4 : FVec Ideal S512 .f32)
    (h : Cert.Pre_in_range.fn (F := Ideal) x0 x1 x2 x3 x4 = (fun _ => 1#1)) (i : S4x2048.Idx) :
    ∃ n < 8192, x0 i = BitVec.ofNat 32 n := by
  have e : IntOp.andi (IntOp.cmpi .sge (x0 i) 0#32) (IntOp.cmpi .slt (x0 i) 8192#32) = 1#1 := congrFun h i
  have e2 : BitVec.ofBool (decide (0 ≤ (x0 i).toInt)) &&& BitVec.ofBool (decide ((x0 i).toInt < 8192)) = 1#1 := e
  have e3 : 0 ≤ (x0 i).toInt ∧ (x0 i).toInt < 8192 := by
    by_cases a : 0 ≤ (x0 i).toInt <;> by_cases b : (x0 i).toInt < 8192 <;> simp [a, b] at e2 ⊢
  refine ⟨(x0 i).toNat, ?_, by simp⟩
  have := BitVec.toInt_eq_toNat_cond (x0 i)
  have := (x0 i).isLt
  split at * <;> omega

/-- The kernel's columns 0 to 511 are near the rows of the table. -/
theorem near (m : (ℓ : Loc nD τ sig) → Buf (Elt Ideal) ℓ) (ρ : Dev nD → PrngReg) (c : Dev nD)
    (hp : ∀ i, ∃ n < 8192, m ((c.tc : Thread nD τ).loc main_arg0) i = BitVec.ofNat 32 n)
    (x1 : FVec Ideal S512x3 .f32) (x2 x3 x4 : FVec Ideal S512 .f32) :
    Cert.Post_near_sinusoid.fn (F := Ideal) (m ((c.tc : Thread nD τ).loc main_arg0)) x1 x2 x3 x4 ((dats m 0 c).arrAt 7 cfg0.N) = (fun _ => 1#1) := by
  rw [Cert.Post_near_sinusoid.Read.fn_split]
  refine funext fun i => (congrArg _ (eq_ix2 i)).trans ?_
  generalize hr : i 0 = r
  generalize hk : i 1 = k
  change Fin 8192 at r
  change Fin 512 at k
  obtain ⟨n, hn, hx⟩ := hp (ix2 ⟨r.val / 2048, by omega⟩ ⟨r.val % 2048, by omega⟩)
  have hf : Cert.Post_near_sinusoid.Read.flat (m ((c.tc : Thread nD τ).loc main_arg0)) (ix1 r) = BitVec.ofNat 32 n := by
    rw [← hx]
    generalize m ((c.tc : Thread nD τ).loc main_arg0) = x
    pointwise [Cert.Post_near_sinusoid.Read.flat]
  have hpos : Cert.KernelIdeal.Block.posR (m ((c.tc : Thread nD τ).loc main_arg0)) r = n := by
    unfold Cert.KernelIdeal.Block.posR
    rw [hx, StableHlo.Predicate.toInt_ofNat_small n (by omega)]
    simp
  have hL := Cert.KernelIdeal.Block.final_left m c freq_word phase_word (ix2 r ⟨k.val, by omega⟩) k rfl
  have hL' := hL.trans (congrArg (fun p : ℝ => ((wave (turn (p * df k + ph k)) : ℝ) : EReal)) hpos)
  exact Cert.Post_near_sinusoid.Read.bound_at _ _ r k hL'
    ((Cert.Post_near_sinusoid.Read.take_at _ _ r ⟨n, hn⟩ hf k).trans (Cert.Post_near_sinusoid.Read.table_at ⟨n, hn⟩ k))
    ((lane_near n hn k).trans (by norm_num))

/-- The claim about the absolute encoding. -/
theorem holds : Cert.holds_KernelIdeal_near_sinusoid_pre_in_range (hKernelIdeal := Cert.KernelIdeal.Gen.facts)
    (hPre_in_range := Cert.Pre_in_range.Gen.facts) (hPost_near_sinusoid := Cert.Post_near_sinusoid.Gen.facts) := by
  intro m ρ hpre
  refine (θ_run defs _ _).mono (fun r h c => ?_) (Cert.KernelIdeal.Value.run_blocks (F := Ideal) m ρ)
  obtain ⟨hv, a0, a1, a2, a3, a4⟩ := h c
  refine ⟨a0, a1, a2, a3, a4, ?_⟩
  exact (congrArg _ hv).trans (near m ρ c (pre_reads _ _ _ _ _ (hpre c)) _ _ _ _)

end Cert.Near

end
-- ==== Proof.lean ====
/- The claim, assembled: the frames of the kernel, of the ideal kernel and of the reference (generated), the equation in the lattice
   columns (`Proof/Masked.lean`) and the bound in the columns of the absolute encoding (`Proof/Near.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_in_range
public import proofs.«01_k».proof.Proof.Gen.Pre_plain_numbers
public import proofs.«01_k».proof.Proof.Gen.Post_near_sinusoid
public import proofs.«01_k».proof.Proof.Gen.On_lattice_columns
public import proofs.«01_k».proof.Proof.Masked
public import proofs.«01_k».proof.Proof.Near
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim := by
  refine ⟨Cert.Kernel.Gen.facts, Cert.KernelIdeal.Gen.facts, Cert.ReferenceIdeal.Gen.facts, Cert.Pre_plain_numbers.Gen.facts, Cert.Pre_in_range.Gen.facts,
    Cert.Post_near_sinusoid.Gen.facts, Cert.On_lattice_columns.Gen.facts, fun m ρ _ => Cert.Kernel.Gen.frame m ρ, fun m ρ _ => Cert.KernelIdeal.Gen.frame m ρ,
    fun m ρ _ => Cert.KernelIdeal.Gen.frame m ρ, fun m ρ _ => Cert.KernelIdeal.Gen.frame m ρ, ?_, ?_, trivial, Cert.Masked.algebraic, Cert.Near.holds⟩
  · exact fun m ρ _ => (θ_run Cert.ReferenceIdeal.defs _ _).mono (fun r h => ⟨fun c => (h c).2, sem_eq_zero_of_no_sems (by decide) r.2⟩)
      (Cert.ReferenceIdeal.Value.run (F := Ideal) m ρ)
  · exact fun m ρ _ => (θ_run Cert.ReferenceIdeal.defs _ _).mono (fun r h => ⟨fun c => (h c).2, sem_eq_zero_of_no_sems (by decide) r.2⟩)
      (Cert.ReferenceIdeal.Value.run (F := Ideal) m ρ)

end Cert.Proof

end
